-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![65536, 1024]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S65536x2048 : Shape := ⟨2, ![65536, 2048]⟩
abbrev S2x2048x1024 : Shape := ⟨3, ![2, 2048, 1024]⟩
abbrev S2048x2048 : Shape := ⟨2, ![2048, 2048]⟩
abbrev S2 : Shape := ⟨1, ![2]⟩
abbrev S_ : Shape := ⟨0, ![]⟩
abbrev S1 : Shape := ⟨1, ![1]⟩
abbrev S1x2048x1024 : Shape := ⟨3, ![1, 2048, 1024]⟩

abbrev nBuf : Space → Nat
  | .hbm => 3
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024x2048, .f32⟩
  | .hbm, ⟨2, _⟩ => ⟨S65536x2048, .f32⟩
  | .local _ .vmem, ⟨0, _⟩ => ⟨S2048x1024, .f32⟩
  | .local _ .vmem, ⟨1, _⟩ => ⟨S1024x2048, .f32⟩
  | .local _ .vmem, ⟨2, _⟩ => ⟨S2x2048x1024, .f32⟩
  | .local _ .vmem, ⟨3, _⟩ => ⟨S2048x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 2 → Bool
  | ⟨0, _⟩ => true
  | ⟨1, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 2 8 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 1

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_13 : BitVec 32 := 1#32
  let v13 : BitVec 32 := Scalar.muli v7 c1_i32_13
  let v14 : BitVec 32 := Scalar.addi c0_i32_14 v13
  v14.toNat
def k0_off1 (d0 : Dev nD) (c32_i32_22 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v29 : BitVec 32 := Scalar.addi v2 c32_i32_22
  let c32_i32_23 : BitVec 32 := 32#32
  let v30 : BitVec 32 := Scalar.remsi v29 c32_i32_23
  let c2048_i32 : BitVec 32 := 2048#32
  let v31 : BitVec 32 := Scalar.muli v30 c2048_i32
  let c0_i32_25 : BitVec 32 := 0#32
  ![v31.toNat, 0]
def k0_off1_at (r : Fin 3) : BitVec 32 :=
  if r.val < 1 then
    32#32
  else
    if r.val < 2 then
      2#32
    else
      1#32
@[reducible] def k0_t1_loop : Scf.Loop 32 :=
  let c0_i32_39 : BitVec 32 := 0#32
  let c15_i32 : BitVec 32 := 15#32
  let v45 : BitVec 32 := Scalar.addi c0_i32_39 c15_i32
  let c1_i32_40 : BitVec 32 := 1#32
  ⟨c0_i32_39, v45, c1_i32_40⟩
def k0_dev4 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_72 : BitVec 32 := 1#32
  let v76 : BitVec 32 := Scalar.muli v7 c1_i32_72
  let v77 : BitVec 32 := Scalar.addi c0_i32_73 v76
  v77.toNat
def k0_off2 (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_79 : BitVec 32 := 32#32
  let c2_i32_62 : BitVec 32 := 2#32
  let c0_i32_39 : BitVec 32 := 0#32
  let c1_i32_40 : BitVec 32 := 1#32
  let arg9 : BitVec 32 := Scf.iv c0_i32_39 c1_i32_40 k0_t1
  let v69 : BitVec 32 := Scalar.muli c2_i32_62 arg9
  let c1_i32_63 : BitVec 32 := 1#32
  let v70 : BitVec 32 := Scalar.addi v69 c1_i32_63
  let c1_i32_78 : BitVec 32 := 1#32
  let v86 : BitVec 32 := Scalar.subi v70 c1_i32_78
  let v87 : BitVec 32 := Scalar.subi c32_i32_79 v86
  let v88 : BitVec 32 := Scalar.addi v2 v87
  let c32_i32_80 : BitVec 32 := 32#32
  let v89 : BitVec 32 := Scalar.remsi v88 c32_i32_80
  let c2048_i32_81 : BitVec 32 := 2048#32
  let v90 : BitVec 32 := Scalar.muli v89 c2048_i32_81
  let c0_i32_83 : BitVec 32 := 0#32
  ![v90.toNat, 0]
def k0_off3 (d0 : Dev nD) (k0_t1 : Fin k0_t1_loop.trips) (c1_i32_63 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_92 : BitVec 32 := 32#32
  let c2_i32_62 : BitVec 32 := 2#32
  let c0_i32_39 : BitVec 32 := 0#32
  let c1_i32_40 : BitVec 32 := 1#32
  let arg9 : BitVec 32 := Scf.iv c0_i32_39 c1_i32_40 k0_t1
  let v69 : BitVec 32 := Scalar.muli c2_i32_62 arg9
  let v70 : BitVec 32 := Scalar.addi v69 c1_i32_63
  let v102 : BitVec 32 := Scalar.subi c32_i32_92 v70
  let v103 : BitVec 32 := Scalar.addi v2 v102
  let c32_i32_93 : BitVec 32 := 32#32
  let v104 : BitVec 32 := Scalar.remsi v103 c32_i32_93
  let c2048_i32_94 : BitVec 32 := 2048#32
  let v105 : BitVec 32 := Scalar.muli v104 c2048_i32_94
  let c0_i32_96 : BitVec 32 := 0#32
  ![v105.toNat, 0]
def k0_dev5 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_117 : BitVec 32 := 1#32
  let v123 : BitVec 32 := Scalar.muli v5 c1_i32_117
  let v124 : BitVec 32 := Scalar.addi c0_i32_118 v123
  v124.toNat
def k0_dev6 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_125 : BitVec 32 := 1#32
  let v125 : BitVec 32 := Scalar.muli v7 c1_i32_125
  let v126 : BitVec 32 := Scalar.addi c0_i32_126 v125
  v126.toNat
def k0_cond2 (k0_t1 : Fin k0_t1_loop.trips) : BitVec 1 :=
  let c2_i32_64 : BitVec 32 := 2#32
  let c0_i32_39 : BitVec 32 := 0#32
  let c1_i32_40 : BitVec 32 := 1#32
  let arg9 : BitVec 32 := Scf.iv c0_i32_39 c1_i32_40 k0_t1
  let v71 : BitVec 32 := Scalar.muli c2_i32_64 arg9
  let c2_i32_65 : BitVec 32 := 2#32
  let v72 : BitVec 32 := Scalar.addi v71 c2_i32_65
  let c29_i32 : BitVec 32 := 29#32
  let v167 : BitVec 1 := Scalar.cmpi .sle v72 c29_i32
  let v168 : BitVec 32 := Scalar.extui v167
  let c0_i32_164 : BitVec 32 := 0#32
  let v169 : BitVec 1 := Scalar.cmpi .ne v168 c0_i32_164
  v169

def k0_dev7 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_166 : BitVec 32 := 1#32
  let v170 : BitVec 32 := Scalar.muli v5 c1_i32_166
  let v171 : BitVec 32 := Scalar.addi c0_i32_167 v170
  v171.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S65536x1024 : Shape := ⟨2, ![65536, 1024]⟩
abbrev S1024x2048 : Shape := ⟨2, ![1024, 2048]⟩
abbrev S65536x2048 : Shape := ⟨2, ![65536, 2048]⟩

abbrev nBuf : Space → Nat
  | .hbm => 3
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2048, .f32⟩
  | .hbm, ⟨2, _⟩ => ⟨S65536x2048, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdealRing.Sched.lean ====
/-
# The ring's protocol: cells, contents and schedule

Thirty-two devices in a ring; device `c` holds row block `c` of `A` and the whole of `B`. Blocks travel to the right
one hop at a time: on hop `h` device `c` sends the block of device `c - h` into a slot of the device after it (slot `0` on even
hops, slot `1` on odd ones), and each device multiplies every block that it holds or receives by `B` and copies the product
into its own result, row block by row block.

Synchronisation, cell by cell (each device has one of each):
* the barrier cell: one round of two signals, from the two neighbours; the right neighbour's hands over both its slots;
* send cells `0` and `1`: one round per even (odd) hop, giving back the half of the source that the transfer read;
* receive cells `0` and `1`: one round per even (odd) hop, handing over the slot, filled with the block of that hop, and the
  fact that the sender's credit cell has reached the round that this device is to pay next;
* the credit cell: one round per credit; the right neighbour signals that one of its slots is free again and hands the
  slot over.

This module states the cells, the contents, the schedule of rounds with every payload, and the levels that order the waits.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's cells, the ring's rounds, the local copies' counters -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × Counters)).trans embR
abbrev EC : UEmb Counters (MT nD τ sig ℕ (Elt F) ℕ UU ℕ) := countersEmb

variable (m : (ℓ : Loc nD τ sig) → Buf (Elt F) ℓ)

/-! ## The ring -/

set_option backward.proofsInPublic true in
/-- The device on the right. -/
def nxt (c : Dev nD) : Dev nD := ⟨(c.val + 1) % 32, Nat.mod_lt _ (by decide)⟩
set_option backward.proofsInPublic true in
/-- The device on the left. -/
def prv (c : Dev nD) : Dev nD := ⟨(c.val + 31) % 32, Nat.mod_lt _ (by decide)⟩
set_option backward.proofsInPublic true in
/-- The device whose block device `c` sends on hop `h`: the one `h` places to its left. -/
def org (c : Dev nD) (h : ℕ) : Dev nD := ⟨(c.val + 31 * h) % 32, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- The ring's rotation as a bijection. -/
def ring : Dev nD ≃ Dev nD := ⟨nxt, prv, prv_nxt, nxt_prv⟩

theorem org_zero (c : Dev nD) : org c 0 = c := Fin.ext (by
  have h := c.isLt; simp only [nD] at h; simp only [org]; omega)
theorem org_nxt (c : Dev nD) (h : ℕ) : org (nxt c) (h + 1) = org c h := Fin.ext (by simp only [org, nxt]; omega)

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = nxt c := Fin.ext (k0_dev3_eq c)
theorem dev4_eq (c : Dev nD) : (⟨k0_dev4 c, k0_dev4_lt c⟩ : Dev nD) = nxt c := Fin.ext (k0_dev4_eq c)
theorem dev5_eq (c : Dev nD) : (⟨k0_dev5 c, k0_dev5_lt c⟩ : Dev nD) = prv c := Fin.ext (k0_dev5_eq c)
theorem dev6_eq (c : Dev nD) : (⟨k0_dev6 c, k0_dev6_lt c⟩ : Dev nD) = nxt c := Fin.ext (k0_dev6_eq c)
theorem dev7_eq (c : Dev nD) (t : Fin k0_t1_loop.trips) (h : k0_cond2 t = 1#1) :
    (⟨k0_dev7 c, k0_dev7_lt c t h⟩ : Dev nD) = prv c := Fin.ext (k0_dev7_eq c)

/-! ## The buffers -/

/-- The staged block of `A`, the staged `B`, the result, the two slots together, and the product. -/
abbrev aM : Memref sig .tc .vmem S2048x1024 .f32 := Memref.whole cc0_stg0_0
abbrev bM : Memref sig .tc .vmem S1024x2048 .f32 := Memref.whole cc0_stg1_0
abbrev oM : Memref sig .tc .hbm S65536x2048 .f32 := Memref.whole main_v1
abbrev commM : Memref sig .tc .vmem S2x2048x1024 .f32 := Memref.whole cc0_scratch0
abbrev accM : Memref sig .tc .vmem S2048x2048 .f32 := Memref.whole cc0_scratch1

abbrev r3_0 : Rect S2x2048x1024 := Rect.unit (s := S2x2048x1024) ![0, 0, 0] S1x2048x1024.size inb_S2x2048x1024_S1x2048x1024_0_0_0
abbrev r3_1 : Rect S2x2048x1024 := Rect.unit (s := S2x2048x1024) ![1, 0, 0] S1x2048x1024.size inb_S2x2048x1024_S1x2048x1024_1_0_0
abbrev slot0 : Memref sig .tc .vmem S2048x1024 .f32 := (commM.slice r3_0 (fun _ => rfl)).squeeze S2048x1024 squeezes_S1x2048x1024_S2048x1024
abbrev slot1 : Memref sig .tc .vmem S2048x1024 .f32 := (commM.slice r3_1 (fun _ => rfl)).squeeze S2048x1024 squeezes_S1x2048x1024_S2048x1024

/-- The slot that hop parity `p` fills. -/
abbrev slotM : Bool → Memref sig .tc .vmem S2048x1024 .f32
  | false => slot0
  | true => slot1

theorem rowOff_inb (d : Dev nD) : ∀ a, (![2048 * d.val, 0] : Fin 2 → ℕ) a + S2048x2048.size a ≤ S65536x2048.size a := by
  revert d; decide +kernel

/-- Row block `d` of the result. -/
abbrev rowsM (d : Dev nD) : Memref sig .tc .hbm S2048x2048 .f32 :=
  oM.slice (Rect.unit (s := S65536x2048) ![2048 * d.val, 0] S2048x2048.size (rowOff_inb d)) (fun _ => rfl)

/-! ## The semaphores and cells -/

abbrev barS : Sem sig := (SemArray.scalar (sig.barrier 0 rfl) : Sems sig S_).sem
abbrev crS : Sem sig := (cc0_scratch5 : Sems sig S_).sem
abbrev pick (A : DmaSems sig S2) : Bool → DmaSem sig
  | false => ((A.slice (Rect.unit (s := S2) ![0] S1.size inb_S2_S1_0)).squeeze S_ squeezes_S1_S_).sem
  | true => ((A.slice (Rect.unit (s := S2) ![1] S1.size inb_S2_S1_1)).squeeze S_ squeezes_S1_S_).sem
/-- The send, receive and copy semaphores of a hop parity. -/
abbrev sendS (p : Bool) : DmaSem sig := pick cc0_scratch2 p
abbrev recvS (p : Bool) : DmaSem sig := pick cc0_scratch3 p
abbrev copyS (p : Bool) : DmaSem sig := pick cc0_scratch4 p

/-- The six semaphores of the ring: barrier, credit, the two send and the two receive semaphores. -/
abbrev csem : Fin 6 → SemLoc sig
  | 0 => .reg barS | 1 => .reg crS
  | 2 => .dma (sendS false) | 3 => .dma (sendS true) | 4 => .dma (recvS false) | 5 => .dma (recvS true)
abbrev kcell (ck : Dev nD × Fin 6) : GSem nD τ sig := ((ck.1 : Thread nD τ), csem ck.2)

abbrev barCell (c : Dev nD) : GSem nD τ sig := ((c : Thread nD τ), .reg barS)
abbrev crCell (c : Dev nD) : GSem nD τ sig := ((c : Thread nD τ), .reg crS)
abbrev sendCell (p : Bool) (c : Dev nD) : GSem nD τ sig := ((c : Thread nD τ), .dma (sendS p))
abbrev recvCell (p : Bool) (c : Dev nD) : GSem nD τ sig := ((c : Thread nD τ), .dma (recvS p))
abbrev copyCell (p : Bool) (c : Dev nD) : GSem nD τ sig := ((c : Thread nD τ), .dma (copyS p))

/-- Which of the six a semaphore is, if any. -/
def kind (sm : SemLoc sig) : Option (Fin 6) :=
  if sm = csem 0 then some 0 else if sm = csem 1 then some 1 else if sm = csem 2 then some 2
  else if sm = csem 3 then some 3 else if sm = csem 4 then some 4 else if sm = csem 5 then some 5 else none

theorem kind_bar : kind (.reg barS) = some 0 := by decide
theorem kind_cr : kind (.reg crS) = some 1 := by decide
theorem kind_send (p : Bool) : kind (.dma (sendS p)) = some (if p then 3 else 2) := by revert p; decide
theorem kind_recv (p : Bool) : kind (.dma (recvS p)) = some (if p then 5 else 4) := by revert p; decide
theorem kind_copy (p : Bool) : kind (.dma (copyS p)) = none := by revert p; decide

/-- The credit of one block's transfer. -/
abbrev N : ℕ := (slot0 : Memref sig .tc .vmem S2048x1024 .f32).view.dmaCredit
theorem N_pos : 0 < N := View.dmaCredit_pos _ (by decide)

/-! ## Contents -/

/-- Device `d`'s block of `A`, as its staging buffer holds it; -/
def xblk (d : Dev nD) : FVec F S2048x1024 .f32 := (win0_0.blk (0 : Fin 1)).view.read (Elt F) (m ((d : Thread nD τ).loc main_arg0))
/-- `B` as device `d` holds it; -/
def yblk (d : Dev nD) : FVec F S1024x2048 .f32 := (win0_1.blk (0 : Fin 1)).view.read (Elt F) (m ((d : Thread nD τ).loc main_arg1))
/-- a block times `B`, as the matrix unit computes it: accumulated from zero; -/
def mm (X : FVec F S2048x1024 .f32) (Y : FVec F S1024x2048 .f32) : FVec F S2048x2048 .f32 :=
  matmul dot_S2048x1024_S1024x2048_S2048x2048_1_0_0_1_n_n none X Y (constant S2048x2048 .f32 0x00000000#32)
/-- row block `d` of device `c`'s result. -/
def prod (c d : Dev nD) : FVec F S2048x2048 .f32 := mm (xblk m d) (yblk m c)

/-- Memref `M` of device `c` held at share `q`, reading `X`; -/
def holds {sp : Space} {s : Shape} (c : Dev nD) (M : Memref sig .tc sp s .f32) (q : PosShare TreeShare) (X : FVec F s .f32) : sProp 𝕄 :=
  iprop(∃ g : Buf (Elt F) (M.view.loc (c : Thread nD τ)), ⌜M.view.read (Elt F) g = X⌝ ∗ (M.view.loc (c : Thread nD τ) ↦[M.view.set]{q} g))
/-- held at share `q`, at any contents. -/
def some' {sp : Space} {s : Shape} (c : Dev nD) (M : Memref sig .tc sp s .f32) (q : PosShare TreeShare) : sProp 𝕄 :=
  iprop(∃ g : Buf (Elt F) (M.view.loc (c : Thread nD τ)), (M.view.loc (c : Thread nD τ) ↦[M.view.set]{q} g))

omit [FloatOps F] in
instance holds_storable {sp : Space} {s : Shape} (c : Dev nD) (M : Memref sig .tc sp s .f32) (q) (X : FVec F s .f32) :
    BI.Storable (upEmb : UEmb _ 𝕄) (holds c M q X) := by unfold holds; infer_instance
omit [FloatOps F] in
instance some_storable {sp : Space} {s : Shape} (c : Dev nD) (M : Memref sig .tc sp s .f32) (q) :
    BI.Storable (upEmb : UEmb _ 𝕄) (some' (F := F) c M q) := by unfold some'; infer_instance

omit [FloatOps F] in
theorem holds_some {sp : Space} {s : Shape} (c : Dev nD) (M : Memref sig .tc sp s .f32) (q) (X : FVec F s .f32) :
    holds c M q X ⊢ (some' c M q : sProp 𝕄) := by
  unfold holds some'; iintro ⟨%g, -, H⟩; iexists g; iexact H

omit [FloatOps F] in
/-- A buffer held reading `X` is held in two halves, one of them at contents that need not be named; -/
theorem holds_halves {sp : Space} {s : Shape} (c : Dev nD) (M : Memref sig .tc sp s .f32) (X : FVec F s .f32) :
    holds c M fullShare X ⊢ (iprop(some' c M fullShare.left ∗ holds c M fullShare.right X) : sProp 𝕄) := by
  unfold holds some'
  iintro ⟨%g, %hg, H⟩
  ihave H' := (pointsTo_share (PosShare.mem_left_op_right fullShare)).1 $$ H
  icases H' with ⟨H1, H2⟩
  isplitl [H1]; · iexists g; iexact H1
  iexists g; isplitr; · ipureintro; exact hg
  iexact H2

omit [FloatOps F] in
/-- and the two halves join to it. -/
theorem holds_join {sp : Space} {s : Shape} (c : Dev nD) (M : Memref sig .tc sp s .f32) (X : FVec F s .f32) :
    (iprop(some' c M fullShare.left ∗ holds c M fullShare.right X) : sProp 𝕄) ⊢ holds c M fullShare X := by
  unfold holds some'
  iintro ⟨⟨%f, H1⟩, %g, %hg, H2⟩
  ihave %h := (pointsTo_agree (ℓ := M.view.loc (c : Thread nD τ)) (I := M.view.set) (J := M.view.set) (f := f) (g := g) (q₁ := fullShare.left) (q₂ := fullShare.right)) $$ [H1 H2]
  · isplitl [H1] <;> iassumption
  iexists g
  isplitr; · ipureintro; exact hg
  iapply (pointsTo_share (PosShare.mem_left_op_right fullShare)).2
  isplitl [H1]
  · iapply (Entails.of_eq (pointsTo_congr (fun i hi => (h i (Finset.mem_inter.mpr ⟨hi, hi⟩)).1))); iexact H1
  iexact H2

/-! ## The schedule -/

/-- The right neighbour's barrier signal hands over both its slots. -/
def barPay (c : Dev nD) : sProp 𝕄 := iprop(some' (nxt c) slot0 fullShare ∗ some' (nxt c) slot1 fullShare)
/-- Round `r` of receive cell `p`, hop `2r + p`: the slot with the block that came, and how far the sender's credit cell is. -/
def recvPay (p : Bool) (c : Dev nD) (r : ℕ) : sProp 𝕄 :=
  iprop(holds c (slotM p) fullShare (xblk m (org c (2 * r + p.toNat + 1))) ∗ reached ER (crCell (prv c)) (2 * r + p.toNat - 1))
/-- Round `r` of send cell `p`: the half of the source that the transfer read (hop `0` reads the staged block, later hops the
    other slot). -/
def sendPay (p : Bool) (c : Dev nD) (r : ℕ) : sProp 𝕄 :=
  if p = false ∧ r = 0 then some' c aM fullShare.left else some' c (slotM (!p)) fullShare.left
/-- Credit `k`: the right neighbour's slot `k mod 2` is free, and its receive cell has reached the round that fills it next. -/
def crPay (c : Dev nD) (k : ℕ) : sProp 𝕄 :=
  iprop(some' (nxt c) (slotM (k % 2 == 1)) fullShare ∗ reached ER (recvCell (k % 2 == 1) (nxt c)) (k / 2 + 1))

/-- How many rounds each kind of cell has. -/
def rounds : Option (Fin 6) → ℕ
  | some 0 => 1 | some 1 => 29 | some 2 => 16 | some 3 => 15 | some 4 => 16 | some 5 => 15 | none => 0
def amountK : Option (Fin 6) → ℕ
  | some 0 => 1 | some 1 => 1 | _ => N
def payK (c : Dev nD) (r : ℕ) (d : Bool) : Option (Fin 6) → sProp 𝕄
  | some 0 => if d then barPay c else iprop(emp)
  | some 1 => crPay c r
  | some 2 => sendPay false c r
  | some 3 => sendPay true c r
  | some 4 => recvPay m false c r
  | some 5 => recvPay m true c r
  | none => iprop(emp)

/-- The schedule of the ring's cells: a barrier cell's round has the duties `false` (from the left) and `true` (from the right),
    every other round the one duty `false`. -/
def ringRd : Rounds.Schedule (GSem nD τ sig) Bool 𝕄 where
  duties g r := if g.1.2 = .tc ∧ r < rounds (kind g.2) then (if kind g.2 = some 0 then Finset.univ else {false}) else ∅
  unitless _ := False
  amount g _ _ := amountK (kind g.2)
  payload g r d := payK m g.1.1 r d (kind g.2)
  amount_pos g _ _ _ := by
    unfold amountK; split
    · exact Nat.one_pos
    · exact Nat.one_pos
    · exact N_pos

instance ringRd_payload_storable (g : GSem nD τ sig) (r : ℕ) (d : Bool) :
    BI.Storable (upEmb : UEmb _ 𝕄) ((ringRd (F := F) m).payload g r d) := by
  show BI.Storable upEmb (payK m g.1.1 r d (kind g.2))
  unfold payK barPay crPay sendPay recvPay
  (repeat' split) <;> infer_instance

section Tables
variable (c : Dev nD)

theorem duties_bar : (ringRd (F := F) m).duties (barCell c) 0 = Finset.univ := by
  dsimp only [ringRd]; rw [kind_bar, if_pos ⟨rfl, by decide⟩, if_pos rfl]
theorem duties_cr {k : ℕ} (hk : k < 29) : (ringRd (F := F) m).duties (crCell c) k = {false} := by
  dsimp only [ringRd]; rw [kind_cr, if_pos ⟨rfl, hk⟩, if_neg (by decide)]
theorem duties_send (p : Bool) {r : ℕ} (hr : r + p.toNat < 16) : (ringRd (F := F) m).duties (sendCell p c) r = {false} := by
  dsimp only [ringRd]; rw [kind_send, if_pos ⟨rfl, by cases p <;> simp_all [rounds] <;> omega⟩, if_neg (by cases p <;> decide)]
theorem duties_recv (p : Bool) {r : ℕ} (hr : r + p.toNat < 16) : (ringRd (F := F) m).duties (recvCell p c) r = {false} := by
  dsimp only [ringRd]; rw [kind_recv, if_pos ⟨rfl, by cases p <;> simp_all [rounds] <;> omega⟩, if_neg (by cases p <;> decide)]
theorem duties_done {g : GSem nD τ sig} {R : ℕ} (hR : rounds (kind g.2) ≤ R) : ∀ r, R ≤ r → (ringRd (F := F) m).duties g r = ∅ :=
  fun r hr => by dsimp only [ringRd]; exact if_neg fun h => by omega

theorem amount_bar (r) (d : Bool) : (ringRd (F := F) m).amount (barCell c) r d = 1 := by dsimp only [ringRd]; rw [kind_bar]; rfl
theorem amount_cr (r) (d : Bool) : (ringRd (F := F) m).amount (crCell c) r d = 1 := by dsimp only [ringRd]; rw [kind_cr]; rfl
theorem amount_send (p) (r) (d : Bool) : (ringRd (F := F) m).amount (sendCell p c) r d = N := by
  dsimp only [ringRd]; rw [kind_send]; cases p <;> rfl
theorem amount_recv (p) (r) (d : Bool) : (ringRd (F := F) m).amount (recvCell p c) r d = N := by
  dsimp only [ringRd]; rw [kind_recv]; cases p <;> rfl

theorem expect_bar : (ringRd (F := F) m).expect (barCell c) 0 = 2 := by
  unfold Schedule.expect Schedule.amountOf
  rw [duties_bar, Finset.sum_congr rfl fun d _ => amount_bar m c 0 d, Finset.sum_const, Finset.card_univ, Fintype.card_bool, smul_eq_mul]
theorem expect_cr {k : ℕ} (hk : k < 29) : (ringRd (F := F) m).expect (crCell c) k = 1 := by
  unfold Schedule.expect Schedule.amountOf; rw [duties_cr m c hk, Finset.sum_singleton, amount_cr]
theorem expect_send (p : Bool) {r : ℕ} (hr : r + p.toNat < 16) : (ringRd (F := F) m).expect (sendCell p c) r = N := by
  unfold Schedule.expect Schedule.amountOf; rw [duties_send m c p hr, Finset.sum_singleton, amount_send]
theorem expect_recv (p : Bool) {r : ℕ} (hr : r + p.toNat < 16) : (ringRd (F := F) m).expect (recvCell p c) r = N := by
  unfold Schedule.expect Schedule.amountOf; rw [duties_recv m c p hr, Finset.sum_singleton, amount_recv]

theorem payload_bar_true (r) : (ringRd (F := F) m).payload (barCell c) r true = barPay c := by dsimp only [ringRd]; rw [kind_bar]; rfl
theorem payload_bar_false (r) : (ringRd (F := F) m).payload (barCell c) r false = iprop(emp) := by dsimp only [ringRd]; rw [kind_bar]; rfl
theorem payload_cr (k) (d : Bool) : (ringRd (F := F) m).payload (crCell c) k d = crPay c k := by dsimp only [ringRd]; rw [kind_cr]; rfl
theorem payload_send (p) (r) (d : Bool) : (ringRd (F := F) m).payload (sendCell p c) r d = sendPay p c r := by
  dsimp only [ringRd]; rw [kind_send]; cases p <;> rfl
theorem payload_recv (p) (r) (d : Bool) : (ringRd (F := F) m).payload (recvCell p c) r d = recvPay m p c r := by
  dsimp only [ringRd]; rw [kind_recv]; cases p <;> rfl

/-- What each kind of wait receives. -/
theorem rest_bar : bigSep ((ringRd (F := F) m).duties (barCell c) 0 \ ∅) (fun d => (ringRd (F := F) m).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
theorem rest_cr {k : ℕ} (hk : k < 29) : bigSep ((ringRd (F := F) m).duties (crCell c) k \ ∅) (fun d => (ringRd (F := F) m).payload (crCell c) k d) = crPay c k := by
  rw [Finset.sdiff_empty, duties_cr m c hk, bigSep_singleton, payload_cr]
theorem rest_send (p : Bool) {r : ℕ} (hr : r + p.toNat < 16) :
    bigSep ((ringRd (F := F) m).duties (sendCell p c) r \ ∅) (fun d => (ringRd (F := F) m).payload (sendCell p c) r d) = sendPay p c r := by
  rw [Finset.sdiff_empty, duties_send m c p hr, bigSep_singleton, payload_send]
theorem rest_recv (p : Bool) {r : ℕ} (hr : r + p.toNat < 16) :
    bigSep ((ringRd (F := F) m).duties (recvCell p c) r \ ∅) (fun d => (ringRd (F := F) m).payload (recvCell p c) r d) = recvPay m p c r := by
  rw [Finset.sdiff_empty, duties_recv m c p hr, bigSep_singleton, payload_recv]

end Tables

/-! ## What a device owes, in the order it pays; the levels -/

/-- The rounds a cell's index may name. -/
def L (g : GSem nD τ sig) : Finset ℕ := if g.1.2 = .tc then Finset.range 32 else ∅
/-- The levels: local cells and send cells lowest, the barrier above them, then the hops and the credits in the order of the
    program. -/
def lv (g : GSem nD τ sig) (r : ℕ) : ℕ := match kind g.2 with
  | some 0 => 1 | some 1 => 2 * r + 5 | some 4 => 4 * r + 2 | some 5 => 4 * r + 4 | _ => 0

theorem L_of_ne (g : GSem nD τ sig) (h : g.1.2 ≠ .tc) : L g = ∅ := if_neg h
theorem mem_L (c : Dev nD) (sm : SemLoc sig) {r : ℕ} (hr : r < 32) : r ∈ L ((c : Thread nD τ), sm) := by
  unfold L; rw [if_pos rfl]; exact Finset.mem_range.mpr hr

theorem lv_bar (c : Dev nD) (r) : lv (barCell c) r = 1 := by unfold lv; rw [kind_bar]; rfl
theorem lv_cr (c : Dev nD) (r) : lv (crCell c) r = 2 * r + 5 := by unfold lv; rw [kind_cr]; rfl
theorem lv_send (p) (c : Dev nD) (r) : lv (sendCell p c) r = 0 := by unfold lv; rw [kind_send]; cases p <;> rfl
theorem lv_recv (p : Bool) (c : Dev nD) (r) : lv (recvCell p c) r = 4 * r + 2 * p.toNat + 2 := by unfold lv; rw [kind_recv]; cases p <;> rfl
theorem lv_copy (p) (c : Dev nD) (r) : lv (copyCell p c) r = 0 := by unfold lv; rw [kind_copy]

/-- Everything owed lies above level `n`. -/
def Above (n : ℕ) (O : CellTallies nD τ sig ℕ) : Prop := ∀ g i, 0 < O g i → i ∈ L g ∧ n < lv g i

theorem Above.zero (n : ℕ) : Above n 0 := fun g i h => absurd h (Nat.lt_irrefl 0)
theorem Above.add {n : ℕ} {O O' : CellTallies nD τ sig ℕ} (h : Above n O) (h' : Above n O') : Above n (O + O') :=
  fun g i hg => (Pipeline.add_pos_cases hg).elim (h g i) (h' g i)
theorem Above.mono {n n' : ℕ} {O : CellTallies nD τ sig ℕ} (h : Above n O) (hn : n' ≤ n) : Above n' O :=
  fun g i hg => ⟨(h g i hg).1, Nat.lt_of_le_of_lt hn (h g i hg).2⟩
theorem Above.tally {n : ℕ} (c : Dev nD) (sm : SemLoc sig) (r k : ℕ) (hr : r < 32) (hl : n < lv ((c : Thread nD τ), sm) r) :
    Above n (tallyAt ((c : Thread nD τ), sm) r k) := fun g i hg => by
  obtain ⟨rfl, rfl⟩ := Pipeline.tallyAt_pos hg
  exact ⟨mem_L c sm hr, hl⟩

omit [FloatOps F] in
theorem Above.mayWait {n : ℕ} {O : CellTallies nD τ sig ℕ} (h : Above n O) (c : Dev nD) (sm : SemLoc sig) (r : ℕ) (hr : r < 32)
    (hl : lv ((c : Thread nD τ), sm) r ≤ n) : (levAts L lv : sProp 𝕄) ⊢ MayWait (c : Thread nD τ) sm r O :=
  Pipeline.mayWait_of_levAts (mem_L c sm hr) fun g i hg => ⟨(h g i hg).1, Nat.lt_of_le_of_lt hl (h g i hg).2⟩

/-- The hop of parity `p` and round `r`, owed to the right neighbour's receive cell; -/
def hopO (c : Dev nD) (p : Bool) (r : ℕ) : CellTallies nD τ sig ℕ := tallyAt (recvCell p (nxt c)) r N
/-- credit `k`, owed to the left neighbour. -/
def crO (c : Dev nD) (k : ℕ) : CellTallies nD τ sig ℕ := tallyAt (crCell (prv c)) k 1
/-- The credit at the end of trip `j`: none at the last. -/
def crO' (c : Dev nD) (j : ℕ) : CellTallies nD τ sig ℕ := if j < 14 then crO c (2 * j + 1) else 0
/-- What trip `j` pays. -/
def tripO (c : Dev nD) (j : ℕ) : CellTallies nD τ sig ℕ := ((crO' c j + hopO c false (j + 1)) + crO c (2 * j)) + hopO c true j
/-- What is owed before trip `j`. -/
def restO (c : Dev nD) (j : ℕ) : CellTallies nD τ sig ℕ := ∑ i ∈ Finset.Ico j 15, tripO c i

def O₂ (c : Dev nD) : CellTallies nD τ sig ℕ := restO c 0 + hopO c false 0
def O₁ (c : Dev nD) : CellTallies nD τ sig ℕ := O₂ c + tallyAt (barCell (nxt c)) 0 1
/-- What a device owes at launch. -/
def O₀ (c : Dev nD) : CellTallies nD τ sig ℕ := O₁ c + tallyAt (barCell (prv c)) 0 1

theorem restO_step (c : Dev nD) {j : ℕ} (hj : j < 15) :
    restO c j = (((restO c (j + 1) + crO' c j) + hopO c false (j + 1)) + crO c (2 * j)) + hopO c true j := by
  unfold restO
  rw [show Finset.Ico j 15 = insert j (Finset.Ico (j + 1) 15) from by
    ext x; simp only [Finset.mem_insert, Finset.mem_Ico]; omega, Finset.sum_insert (by simp), tripO, add_comm]
  simp only [add_assoc]
theorem restO_end (c : Dev nD) : restO c 15 = 0 := by unfold restO; rw [Finset.Ico_self, Finset.sum_empty]

theorem above_hop (c : Dev nD) (p : Bool) {r n : ℕ} (hr : r < 32) (hn : n < 4 * r + 2 * p.toNat + 2) : Above n (hopO c p r) :=
  Above.tally _ _ _ _ hr (by rw [show lv ((nxt c : Thread nD τ), .dma (recvS p)) r = _ from lv_recv p (nxt c) r]; exact hn)
theorem above_cr (c : Dev nD) {k n : ℕ} (hk : k < 32) (hn : n < 2 * k + 5) : Above n (crO c k) :=
  Above.tally _ _ _ _ hk (by rw [show lv ((prv c : Thread nD τ), .reg crS) k = _ from lv_cr (prv c) k]; exact hn)
theorem above_cr' (c : Dev nD) {j n : ℕ} (hn : n < 4 * j + 7) : Above n (crO' c j) := by
  unfold crO'; split
  · exact above_cr c (by omega) (by omega)
  · exact Above.zero n
theorem above_trip (c : Dev nD) {j n : ℕ} (hj : j < 15) (hn : n < 4 * j + 4) : Above n (tripO c j) :=
  (((above_cr' c (by omega)).add (above_hop c false (by omega) (by simp; omega))).add (above_cr c (by omega) (by omega))).add
    (above_hop c true (by omega) (by simp; omega))
theorem above_rest (c : Dev nD) {j n : ℕ} (hn : n < 4 * j + 4) : Above n (restO c j) := fun g i hg => by
  obtain ⟨x, hx, h⟩ := Pipeline.sum_pos_exists hg
  obtain ⟨h1, h2⟩ := Finset.mem_Ico.mp hx
  exact above_trip c h2 (by omega) g i h
theorem above_O₂ (c : Dev nD) : Above 1 (O₂ c) := (above_rest c (by omega)).add (above_hop c false (by omega) (by simp))
theorem above_bar (c : Dev nD) : Above 0 (tallyAt (barCell c) 0 1) := Above.tally c (.reg barS) 0 1 (by omega) (by
  rw [show lv ((c : Thread nD τ), .reg barS) 0 = _ from lv_bar c 0]; omega)
theorem above_O₀ (c : Dev nD) : Above 0 (O₀ c) := (((above_O₂ c).mono (by omega)).add (above_bar _)).add (above_bar _)

end Cert.KernelIdeal.Ring

end
-- ==== Proof.KernelIdealRing.Steps.lean ====
/-
# The steps of the kernel's program over the ring's protocol

One theorem per kind of operation the kernel performs: a signal, a wait, a send to the right, a copy into the result, a
load and a store. Each takes what the operation needs out of the device's hands and returns what it brings.
-/
module

public import proofs.«01_k».proof.Proof.KernelIdealRing.Sched

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Fin 6 → ℕ)

abbrev 𝒱₀ : Variants := Variants.none

/-- The weakest precondition of a program of device `c`'s core. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What every device may use at any time -/

/-- Every cell's invariant, and that every cell has reached round `0`. -/
def records : sProp 𝕄 :=
  iprop((bigSep Finset.univ fun ck : Dev nD × Fin 6 => cellInv ER (ringRd m) (K ck) (kcell ck))
    ∗ bigSep Finset.univ fun ck : Dev nD × Fin 6 => reached ER (kcell ck) 0)
/-- The records and the levels. -/
def ctx : sProp 𝕄 := iprop(records m K ∗ levAts L lv)

instance records_persistent : BI.Persistent (records m K) := by unfold records; infer_instance
instance ctx_persistent : BI.Persistent (ctx m K) := by unfold ctx; infer_instance

theorem invs_at (ck : Dev nD × Fin 6) :
    (bigSep Finset.univ fun ck : Dev nD × Fin 6 => (cellInv ER (ringRd m) (K ck) (kcell ck) : sProp 𝕄)) ⊢ cellInv ER (ringRd m) (K ck) (kcell ck) :=
  bigSep_elim (Finset.mem_univ ck)
omit [FloatOps F] in
theorem marks_at (ck : Dev nD × Fin 6) :
    (bigSep Finset.univ fun ck : Dev nD × Fin 6 => (reached ER (kcell ck) 0 : sProp 𝕄)) ⊢ reached ER (kcell ck) 0 :=
  bigSep_elim (Finset.mem_univ ck)
theorem ctx_inv (ck : Dev nD × Fin 6) : ctx m K ⊢ cellInv ER (ringRd m) (K ck) (kcell ck) := by
  unfold ctx records
  iintro ⟨⟨H, -⟩, -⟩
  iapply (invs_at m K ck); iexact H
theorem ctx_reached (ck : Dev nD × Fin 6) : ctx m K ⊢ reached ER (kcell ck) 0 := by
  unfold ctx records
  iintro ⟨⟨-, H⟩, -⟩
  iapply (marks_at ck); iexact H
theorem ctx_levs : ctx m K ⊢ levAts L lv := by
  unfold ctx
  iintro ⟨-, H⟩
  iexact H

/-- The index of a send or receive cell among the six. -/
abbrev sIx (p : Bool) : Fin 6 := if p then 3 else 2
abbrev rIx (p : Bool) : Fin 6 := if p then 5 else 4

theorem inv_bar (c : Dev nD) : ctx m K ⊢ cellInv ER (ringRd m) (K (c, 0)) (barCell c) := ctx_inv m K (c, 0)
theorem inv_cr (c : Dev nD) : ctx m K ⊢ cellInv ER (ringRd m) (K (c, 1)) (crCell c) := ctx_inv m K (c, 1)
theorem inv_send (p : Bool) (c : Dev nD) : ctx m K ⊢ cellInv ER (ringRd m) (K (c, sIx p)) (sendCell p c) :=
  match p with
  | false => ctx_inv m K (c, 2)
  | true => ctx_inv m K (c, 3)
theorem inv_recv (p : Bool) (c : Dev nD) : ctx m K ⊢ cellInv ER (ringRd m) (K (c, rIx p)) (recvCell p c) :=
  match p with
  | false => ctx_inv m K (c, 4)
  | true => ctx_inv m K (c, 5)
theorem reached_bar (c : Dev nD) : ctx m K ⊢ reached ER (barCell c) 0 := ctx_reached m K (c, 0)
theorem reached_cr (c : Dev nD) : ctx m K ⊢ reached ER (crCell c) 0 := ctx_reached m K (c, 1)
theorem reached_send (p : Bool) (c : Dev nD) : ctx m K ⊢ reached ER (sendCell p c) 0 :=
  match p with
  | false => ctx_reached m K (c, 2)
  | true => ctx_reached m K (c, 3)
theorem reached_recv (p : Bool) (c : Dev nD) : ctx m K ⊢ reached ER (recvCell p c) 0 :=
  match p with
  | false => ctx_reached m K (c, 4)
  | true => ctx_reached m K (c, 5)

/-- What device `c` owes, whatever it has waited for. -/
def owing (c : Dev nD) (O : CellTallies nD τ sig ℕ) : sProp 𝕄 := iprop(∃ W : Waits sig ℕ, owes (c : Thread nD τ) O W)

section Sync

variable {c : Dev nD} {α : Type} {Q : α → sProp (MT nD τ sig ℕ (Elt F) ℕ UU ℕ)} {k : PUnit → Prog (TpuEff nD τ sig (Elt F) Λ₀ .tc) α}

/-- The barrier signal to the left hands over both the device's slots. -/
theorem signal_left (n : Dev nD) (hn : n = prv c) {z : ℤ} (hz : z = ((1 : ℕ) : ℤ)) (O : CellTallies nD τ sig ℕ) :
    iprop(ctx m K ∗ owing c (O + tallyAt (barCell (prv c)) 0 1) ∗ dutyTok ER (barCell (prv c)) 0 true
        ∗ some' c slot0 fullShare ∗ some' c slot1 fullShare)
      ⊢ iprop((owing c O -∗ WP c (k ⟨⟩) Q) -∗ WP c (.op (.semSignal (n : Thread nD τ) barS z) k) Q) := by
  subst hn hz
  unfold owing
  iintro ⟨#Hc, ⟨%W, HO⟩, Ht, H0, H1⟩ Hk
  iapply (Rounds.wp_signal 𝒱₀ ER (ringRd m) (c : Thread nD τ) none (dst := (prv c : Thread nD τ)) (κ := K (prv c, 0))
      (r := 0) (d := true) (by rw [duties_bar]; exact Finset.mem_univ _) (amount_bar m (prv c) 0 true) 0 O rfl) $$ [HO Ht H0 H1]
  · isplitr; · iapply (inv_bar m K); iexact Hc
    isplitl [HO]; · iexact HO
    isplitl [Ht]; · iexact Ht
    isplitl [H0 H1]
    · rw [payload_bar_true]; unfold barPay; rw [nxt_prv]
      isplitl [H0] <;> iassumption
    · iapply (reached_bar m K); iexact Hc
  iintro HO
  iapply Hk
  iexists W; iexact HO

/-- The barrier signal to the right hands over nothing. -/
theorem signal_right (n : Dev nD) (hn : n = nxt c) {z : ℤ} (hz : z = ((1 : ℕ) : ℤ)) (O : CellTallies nD τ sig ℕ) :
    iprop(ctx m K ∗ owing c (O + tallyAt (barCell (nxt c)) 0 1) ∗ dutyTok ER (barCell (nxt c)) 0 false)
      ⊢ iprop((owing c O -∗ WP c (k ⟨⟩) Q) -∗ WP c (.op (.semSignal (n : Thread nD τ) barS z) k) Q) := by
  subst hn hz
  unfold owing
  iintro ⟨#Hc, ⟨%W, HO⟩, Ht⟩ Hk
  iapply (Rounds.wp_signal 𝒱₀ ER (ringRd m) (c : Thread nD τ) none (dst := (nxt c : Thread nD τ)) (κ := K (nxt c, 0))
      (r := 0) (d := false) (by rw [duties_bar]; exact Finset.mem_univ _) (amount_bar m (nxt c) 0 false) 0 O rfl) $$ [HO Ht]
  · isplitr; · iapply (inv_bar m K); iexact Hc
    isplitl [HO]; · iexact HO
    isplitl [Ht]; · iexact Ht
    isplitr
    · rw [payload_bar_false]; iempintro
    · iapply (reached_bar m K); iexact Hc
  iintro HO
  iapply Hk
  iexists W; iexact HO

/-- The wait on the barrier brings both slots of the right neighbour. -/
theorem wait_bar {z : ℤ} (hz : z = ((2 : ℕ) : ℤ)) {O : CellTallies nD τ sig ℕ} (hO : Above 1 O) :
    iprop(ctx m K ∗ owing c O ∗ cred (tallyAt (barCell c) 0 2) ∗ atPos ER (barCell c) 0 ∅ 0)
      ⊢ iprop(((owing c O ∗ atPos ER (barCell c) 1 ∅ 0 ∗ some' (nxt c) slot0 fullShare ∗ some' (nxt c) slot1 fullShare)
          -∗ WP c (k ⟨⟩) Q) -∗ WP c (.op (.semWait barS z) k) Q) := by
  subst hz
  unfold owing
  iintro ⟨#Hc, ⟨%W, HO⟩, Hcr, Hat⟩ Hk
  iapply (Rounds.wp_wait_rest_token 𝒱₀ ER (ringRd m) (c : Thread nD τ) none (κ := K (c, 0))
      (wpE_semWait_eq 𝒱₀ (c : Thread nD τ) none Set.univ) (Set.mem_univ _) 0 (O := O) (W := W) (R := 0) (m := 0) (T := ∅)
      (by rw [expect_bar])) $$ [Hcr HO Hat]
  · isplitr; · iapply (inv_bar m K); iexact Hc
    isplitl [Hcr]; · iexact Hcr
    isplitl [HO]; · iexact HO
    isplitr
    · iapply (hO.mayWait c (.reg barS) 0 (by omega) (Nat.le_of_eq (lv_bar c 0))); iapply (ctx_levs m K); iexact Hc
    iexact Hat
  iintro ⟨HO, Hat, -, Hp⟩
  ihave Hp := (Entails.of_eq (rest_bar m c)) $$ Hp
  unfold barPay
  icases Hp with ⟨-, H0, H1⟩
  iapply Hk
  isplitl [HO]; · iexists _; iexact HO
  isplitl [Hat]; · iexact Hat
  isplitl [H0] <;> iassumption

/-- Credit `j`: the device's slot `j mod 2` is handed to the left neighbour. -/
theorem signal_credit (j : ℕ) (hj : j < 29) {p : Bool} (hp : (j % 2 == 1) = p) {u : ℕ} (hu : j / 2 + 1 = u) (n : Dev nD) (hn : n = prv c) {z : ℤ} (hz : z = ((1 : ℕ) : ℤ)) (O : CellTallies nD τ sig ℕ) :
    iprop(ctx m K ∗ owing c (O + crO c j) ∗ dutyTok ER (crCell (prv c)) j false ∗ some' c (slotM p) fullShare
        ∗ reached ER (recvCell p c) u ∗ reached ER (crCell (prv c)) j)
      ⊢ iprop((owing c O -∗ WP c (k ⟨⟩) Q) -∗ WP c (.op (.semSignal (n : Thread nD τ) crS z) k) Q) := by
  subst hn hz hp hu
  unfold owing
  iintro ⟨#Hc, ⟨%W, HO⟩, Ht, H0, H1, H2⟩ Hk
  iapply (Rounds.wp_signal 𝒱₀ ER (ringRd m) (c : Thread nD τ) none (dst := (prv c : Thread nD τ)) (κ := K (prv c, 1))
      (r := j) (d := false) (by rw [duties_cr m (prv c) hj]; exact Finset.mem_singleton_self _) (amount_cr m (prv c) j false) j O rfl)
    $$ [HO Ht H0 H1 H2]
  · isplitr; · iapply (inv_cr m K); iexact Hc
    isplitl [HO]; · iexact HO
    isplitl [Ht]; · iexact Ht
    isplitl [H0 H1]
    · rw [payload_cr]; unfold crPay; rw [nxt_prv]
      isplitl [H0] <;> iassumption
    · iexact H2
  iintro HO
  iapply Hk
  iexists W; iexact HO

/-- The wait for credit `j` brings the right neighbour's slot `j mod 2`. -/
theorem wait_credit (j : ℕ) (hj : j < 29) {p : Bool} (hp : (j % 2 == 1) = p) {u : ℕ} (hu : j / 2 + 1 = u) {z : ℤ} (hz : z = ((1 : ℕ) : ℤ)) {O : CellTallies nD τ sig ℕ} (hO : Above (2 * j + 5) O) :
    iprop(ctx m K ∗ owing c O ∗ cred (tallyAt (crCell c) j 1) ∗ atPos ER (crCell c) j ∅ 0)
      ⊢ iprop(((owing c O ∗ atPos ER (crCell c) (j + 1) ∅ 0 ∗ reached ER (crCell c) (j + 1)
            ∗ some' (nxt c) (slotM p) fullShare ∗ reached ER (recvCell p (nxt c)) u)
          -∗ WP c (k ⟨⟩) Q) -∗ WP c (.op (.semWait crS z) k) Q) := by
  subst hz hp hu
  unfold owing
  iintro ⟨#Hc, ⟨%W, HO⟩, Hcr, Hat⟩ Hk
  iapply (Rounds.wp_wait_rest_token 𝒱₀ ER (ringRd m) (c : Thread nD τ) none (κ := K (c, 1))
      (wpE_semWait_eq 𝒱₀ (c : Thread nD τ) none Set.univ) (Set.mem_univ _) j (O := O) (W := W) (R := j) (m := 0) (T := ∅)
      (by rw [expect_cr m c hj])) $$ [Hcr HO Hat]
  · isplitr; · iapply (inv_cr m K); iexact Hc
    isplitl [Hcr]; · iexact Hcr
    isplitl [HO]; · iexact HO
    isplitr
    · iapply (hO.mayWait c (.reg crS) j (by omega) (Nat.le_of_eq (lv_cr c j))); iapply (ctx_levs m K); iexact Hc
    iexact Hat
  iintro ⟨HO, Hat, Hr, Hp⟩
  ihave Hp := (Entails.of_eq (rest_cr m c hj)) $$ Hp
  unfold crPay
  icases Hp with ⟨H0, H1⟩
  iapply Hk
  isplitl [HO]; · iexists _; iexact HO
  isplitl [Hat]; · iexact Hat
  isplitl [Hr]; · iexact Hr
  isplitl [H0] <;> iassumption

section Waits

variable {sp sp' : Space} {s s' : Shape} {e e' : EltTy} {κ' : Kind}
  {srcw : Memref sig .tc sp' s' e'} {dstw : Memref sig κ' sp s e} {hsrc : srcw.view.WordExact} {hdst : dstw.view.WordExact}

/-- The wait for a send gives back the half of its source. -/
theorem wait_send (p : Bool) (r : ℕ) (hr : r + p.toNat < 16) (hN : dstw.view.dmaCredit = N) {O : CellTallies nD τ sig ℕ} (hO : Above 0 O) :
    iprop(ctx m K ∗ owing c O ∗ cred (tallyAt (sendCell p c) 0 N) ∗ atPos ER (sendCell p c) r ∅ 0)
      ⊢ iprop(((owing c O ∗ atPos ER (sendCell p c) (r + 1) ∅ 0 ∗ reached ER (sendCell p c) (r + 1) ∗ sendPay p c r)
          -∗ WP c (k ⟨⟩) Q) -∗ WP c (.op (.waitDma2 (sendS p) srcw dstw hsrc hdst) k) Q) := by
  unfold owing
  iintro ⟨#Hc, ⟨%W, HO⟩, Hcr, Hat⟩ Hk
  iapply (Rounds.wp_wait_rest_token 𝒱₀ ER (ringRd m) (c : Thread nD τ) none (κ := K (c, sIx p)) (sm := .dma (sendS p))
      (wpE_waitDma2_eq 𝒱₀ (c : Thread nD τ) none Set.univ) (Set.mem_univ _) 0 (O := O) (W := W) (R := r) (m := 0) (T := ∅)
      (by rw [expect_send m c p hr, hN, Nat.zero_add])) $$ [Hcr HO Hat]
  · isplitr; · iapply (inv_send m K); iexact Hc
    isplitl [Hcr]; · rw [hN]; iexact Hcr
    isplitl [HO]; · iexact HO
    isplitr
    · iapply (hO.mayWait c (.dma (sendS p)) 0 (by omega) (Nat.le_of_eq (lv_send p c 0))); iapply (ctx_levs m K); iexact Hc
    iexact Hat
  iintro ⟨HO, Hat, Hr, Hp⟩
  ihave Hp := (Entails.of_eq (rest_send m c p hr)) $$ Hp
  iapply Hk
  isplitl [HO]; · iexists _; iexact HO
  isplitl [Hat]; · iexact Hat
  isplitl [Hr] <;> iassumption

/-- The wait for a receive brings the slot, filled, and how far the left neighbour's credit cell is. -/
theorem wait_recv (p : Bool) (r : ℕ) (hr : r + p.toNat < 16) {h u : ℕ} (hh : 2 * r + p.toNat + 1 = h) (hu : 2 * r + p.toNat - 1 = u) (hN : dstw.view.dmaCredit = N) {O : CellTallies nD τ sig ℕ}
    (hO : Above (4 * r + 2 * p.toNat + 2) O) :
    iprop(ctx m K ∗ owing c O ∗ cred (tallyAt (recvCell p c) r N) ∗ atPos ER (recvCell p c) r ∅ 0)
      ⊢ iprop(((owing c O ∗ atPos ER (recvCell p c) (r + 1) ∅ 0 ∗ reached ER (recvCell p c) (r + 1)
            ∗ holds c (slotM p) fullShare (xblk m (org c h)) ∗ reached ER (crCell (prv c)) u)
          -∗ WP c (k ⟨⟩) Q) -∗ WP c (.op (.waitDma2 (recvS p) srcw dstw hsrc hdst) k) Q) := by
  subst hh hu
  unfold owing
  iintro ⟨#Hc, ⟨%W, HO⟩, Hcr, Hat⟩ Hk
  iapply (Rounds.wp_wait_rest_token 𝒱₀ ER (ringRd m) (c : Thread nD τ) none (κ := K (c, rIx p)) (sm := .dma (recvS p))
      (wpE_waitDma2_eq 𝒱₀ (c : Thread nD τ) none Set.univ) (Set.mem_univ _) r (O := O) (W := W) (R := r) (m := 0) (T := ∅)
      (by rw [expect_recv m c p hr, hN, Nat.zero_add])) $$ [Hcr HO Hat]
  · isplitr; · iapply (inv_recv m K); iexact Hc
    isplitl [Hcr]; · rw [hN]; iexact Hcr
    isplitl [HO]; · iexact HO
    isplitr
    · iapply (hO.mayWait c (.dma (recvS p)) r (by omega) (Nat.le_of_eq (lv_recv p c r))); iapply (ctx_levs m K); iexact Hc
    iexact Hat
  iintro ⟨HO, Hat, Hr, Hp⟩
  ihave Hp := (Entails.of_eq (rest_recv m c p hr)) $$ Hp
  unfold recvPay
  icases Hp with ⟨H0, H1⟩
  iapply Hk
  isplitl [HO]; · iexists _; iexact HO
  isplitl [Hat]; · iexact Hat
  isplitl [Hr]; · iexact Hr
  isplitl [H0] <;> iassumption

/-- The wait for a local copy brings what the copy delivers. -/
theorem wait_copy (p : Bool) {NC : ℕ} (hN : dstw.view.dmaCredit = NC) (D : sProp 𝕄) {O : CellTallies nD τ sig ℕ} (hO : Above 0 O) :
    iprop(ctx m K ∗ owing c O ∗ Transfers.Flight EC (c : Thread nD τ) (.dma (copyS p)) 0 NC D)
      ⊢ iprop(((owing c O ∗ D ∗ semVal (copyCell p c) 0) -∗ WP c (k ⟨⟩) Q)
          -∗ WP c (.op (.waitDma2 (copyS p) srcw dstw hsrc hdst) k) Q) := by
  unfold owing
  iintro ⟨#Hc, ⟨%W, HO⟩, HF⟩ Hk
  iapply (Transfers.wp_waitLocalO EC 𝒱₀ (c : Thread nD τ) none (sem := copyS p) 0 hN (O := O) (W := W)) $$ [HF HO]
  · isplitl [HF]; · iexact HF
    isplitl [HO]; · iexact HO
    iapply (hO.mayWait c (.dma (copyS p)) 0 (by omega) (Nat.le_of_eq (lv_copy p c 0))); iapply (ctx_levs m K); iexact Hc
  iintro ⟨HD, Hv, HO⟩
  iapply Hk
  isplitl [HO]; · iexists _; iexact HO
  isplitl [HD] <;> iassumption

end Waits

omit [FloatOps F] in
theorem some_intro {sp : Space} {s : Shape} (c : Dev nD) (M : Memref sig .tc sp s .f32) (q : PosShare TreeShare)
    (g : Buf (Elt F) (M.view.loc (c : Thread nD τ))) : (M.view.loc (c : Thread nD τ) ↦[M.view.set]{q} g : sProp 𝕄) ⊢ some' c M q := by
  unfold some'; iintro H; iexists g; iexact H

/-- The send of hop `2r + p`: the source's block `X` goes into the right neighbour's slot `p`; half the source stays. -/
theorem send_hop (p : Bool) (r : ℕ) (hr : r + p.toNat < 16) {u : ℕ} (hu : 2 * r + p.toNat - 1 = u) (src : Memref sig .tc .vmem S2048x1024 .f32)
    (hsp : (some' c src fullShare.left : sProp 𝕄) ⊢ sendPay p c r) (n : Dev nD) (hn : n = nxt c)
    {hsc : (slotM p : Memref sig (Dev.tc n : Thread nD τ).2.kind .vmem S2048x1024 .f32).view.ref.isScScratch = false}
    {hsrc : src.view.WordExact} {hdst : (slotM p : Memref sig .tc .vmem S2048x1024 .f32).view.WordExact}
    {hsem : DmaTarget.Typed .vmem (.dma (recvS p)) (.remote (Dev.tc n : Thread nD τ) (slotM p : Memref sig .tc .vmem S2048x1024 .f32) (.dma (sendS p)) hsc)}
    (O : CellTallies nD τ sig ℕ) (X : FVec F S2048x1024 .f32) (hX : X = xblk m (org c (2 * r + p.toNat))) :
    iprop(ctx m K ∗ owing c (O + hopO c p r) ∗ holds c src fullShare X ∗ some' (nxt c) (slotM p) fullShare
        ∗ dutyTok ER (sendCell p c) r false ∗ reached ER (sendCell p c) r
        ∗ dutyTok ER (recvCell p (nxt c)) r false ∗ reached ER (recvCell p (nxt c)) r ∗ reached ER (crCell c) u)
      ⊢ iprop(((owing c O ∗ holds c src fullShare.right X ∗ cred (tallyAt (sendCell p c) 0 N)) -∗ WP c (k ⟨⟩) Q)
          -∗ WP c (.op (.enqueueDma src (.remote (Dev.tc n : Thread nD τ) (slotM p) (.dma (sendS p)) hsc) (.dma (recvS p)) hsrc hdst hsem) k) Q) := by
  subst hn hu
  unfold owing
  iintro ⟨#Hc, ⟨%W, HO⟩, Hs, Hd, Ht1, Hr1, Ht2, Hr2, Hcr⟩ Hk
  unfold holds some'
  icases Hs with ⟨%g, %hg, Hs⟩
  icases Hd with ⟨%fd, Hd⟩
  ihave Hs := (pointsTo_share (PosShare.mem_left_op_right fullShare)).1 $$ Hs
  icases Hs with ⟨Hs1, Hs2⟩
  iapply (Rounds.wp_send_pointsTo_with 𝒱₀ ER (ringRd m) (c : Thread nD τ) none (κ₁ := K (c, sIx p)) (κ₂ := K (nxt c, rIx p))
    (r₁ := r) (r₂ := r) (d₁ := false) (d₂ := false) (fd := fd) (fs := g) (F := reached ER (crCell c) (2 * r + p.toNat - 1))
    (c' := (nxt c : Thread nD τ)) (dst := slotM p)
    (by rw [duties_send m c p hr]; exact Finset.mem_singleton_self _) (by rw [duties_recv m (nxt c) p hr]; exact Finset.mem_singleton_self _)
    r 0 N (by cases p <;> rfl) (amount_send m c p r false) (amount_recv m (nxt c) p r false) O rfl (W := W)
    (by
      rw [payload_send]
      exact BI.Entails.trans (some_intro c src _ g) hsp)
    (by
      rw [payload_recv]; unfold recvPay holds
      rw [prv_nxt, org_nxt, ← hX]
      iintro ⟨H, Hc⟩
      isplitl [H]
      · iexists _; isplitr
        · ipureintro
          exact (View.read_write_univ fd _).trans hg
        · iexact H
      iexact Hc))
    $$ [HO Hs1 Hd Ht1 Hr1 Ht2 Hr2 Hcr]
  · isplitr; · iapply (inv_send m K); iexact Hc
    isplitr; · iapply (inv_recv m K); iexact Hc
    isplitl [Hs1]; · iexact Hs1
    isplitl [Hd Hcr]
    · isplitl [Hd] <;> iassumption
    isplitl [HO]; · iexact HO
    isplitl [Ht1]; · iexact Ht1
    isplitl [Hr1]; · iexact Hr1
    isplitl [Ht2] <;> iassumption
  iintro ⟨Hcs, HO⟩
  iapply Hk
  isplitl [HO]; · iexists W; iexact HO
  isplitl [Hs2]
  · iexists g; isplitr; · ipureintro; exact hg
    iexact Hs2
  iexact Hcs

/-- The credit of one row block's copy. -/
abbrev NC : ℕ := (rowsM 0).view.dmaCredit
theorem NC_pos : 0 < NC := View.dmaCredit_pos _ (by decide)
theorem NC_eq (off : Fin 2 → ℕ) (inb) (st) :
    (oM.slice (Rect.unit (s := S65536x2048) off S2048x2048.size inb) st : Memref sig .tc .hbm S2048x2048 .f32).view.dmaCredit = NC := rfl

/-- The copy of the product into row block `d` of the result. -/
theorem copy_out (p : Bool) (d : Dev nD) (off : Fin 2 → ℕ) (hoff : off = ![2048 * d.val, 0]) {inb} {hsrc : accM.view.WordExact}
    {hdst : (oM.slice (Rect.unit (s := S65536x2048) off S2048x2048.size inb) (fun _ => rfl) : Memref sig .tc .hbm S2048x2048 .f32).view.WordExact}
    {hsem} (X : FVec F S2048x2048 .f32) :
    iprop(holds c accM fullShare X ∗ some' c (rowsM d) fullShare ∗ semVal (copyCell p c) 0)
      ⊢ iprop((Transfers.Flight EC (c : Thread nD τ) (.dma (copyS p)) 0 NC iprop(holds c (rowsM d) fullShare X ∗ some' c accM fullShare)
          -∗ WP c (k ⟨⟩) Q)
        -∗ WP c (.op (.enqueueDma accM (.here (oM.slice (Rect.unit (s := S65536x2048) off S2048x2048.size inb) (fun _ => rfl))) (.dma (copyS p)) hsrc hdst hsem) k) Q) := by
  subst hoff
  unfold holds some'
  iintro ⟨⟨%g, %hg, Hs⟩, ⟨%fd, Hd⟩, Hv⟩ Hk
  iapply (Transfers.wp_dmaLocal EC 𝒱₀ (c : Thread nD τ) none (src := accM) (dst := rowsM d) (sm := .dma (copyS p)) (fs := g) (fd := fd) (q := fullShare)
    0 NC rfl NC_pos (Finset.Subset.refl _)) $$ [Hs Hd Hv]
  · isplitl [Hs]; · iexact Hs
    isplitl [Hd] <;> iassumption
  iintro HF
  iapply Hk
  iapply (Transfers.Flight_mono EC (c : Thread nD τ) (D' := _) ?_) $$ HF
  iintro ⟨Hd, Hs⟩
  isplitl [Hd]
  · iexists _; isplitr
    · ipureintro
      exact (View.read_write_univ fd _).trans hg
    · iexact Hd
  · iexists g; iexact Hs

end Sync

/-! ## Loads and stores -/

section Mem

variable {c : Dev nD} {α : Type} {Q : α → sProp (MT nD τ sig ℕ (Elt F) ℕ UU ℕ)}

omit [FloatOps F] in
theorem hz2 : (![0, 0] : Fin 2 → ℕ) = fun _ => 0 := funext fun a => by fin_cases a <;> rfl

omit [FloatOps F] in
theorem read_a (g : (cc0_stg0_0 : Ref sig .tc).ty.Contents (Elt F)) : aM.view.read (Elt F) g = g := View.read_whole ..
omit [FloatOps F] in
theorem read_b (g : (cc0_stg1_0 : Ref sig .tc).ty.Contents (Elt F)) : bM.view.read (Elt F) g = g := View.read_whole ..
omit [FloatOps F] in
theorem readAt_a (g : (cc0_stg0_0 : Ref sig .tc).ty.Contents (Elt F)) (inb) :
    aM.view.readAt (Elt F) (Rect.unit (s := S2048x1024) ![0, 0] S2048x1024.size inb).toLoadRect g = g :=
  Memref.readAt_unit_zero (Elt F) cc0_stg0_0 hz2 _ g
omit [FloatOps F] in
theorem readAt_b (g : (cc0_stg1_0 : Ref sig .tc).ty.Contents (Elt F)) (inb) :
    bM.view.readAt (Elt F) (Rect.unit (s := S1024x2048) ![0, 0] S1024x2048.size inb).toLoadRect g = g :=
  Memref.readAt_unit_zero (Elt F) cc0_stg1_0 hz2 _ g
omit [FloatOps F] in
theorem read_acc (g : (cc0_scratch1 : Ref sig .tc).ty.Contents (Elt F)) : accM.view.read (Elt F) g = g := View.read_whole ..

/-- A load of the whole of a staged array reads what it holds. -/
theorem load_a (q : PosShare TreeShare) (X : FVec F S2048x1024 .f32) {inb} {hl}
    {k : Vec F S2048x1024 .f32 → Prog (TpuEff nD τ sig (Elt F) Λ₀ .tc) α} :
    (holds c aM q X) ⊢ iprop((holds c aM q X -∗ WP c (k X) Q)
      -∗ WP c (.op (.load aM (Rect.unit (s := S2048x1024) ![0, 0] S2048x1024.size inb).toLoadRect hl) k) Q) := by
  unfold holds
  iintro ⟨%g, %hg, H⟩ Hk
  iapply (wp_load 𝒱₀ (c : Thread nD τ) none Set.univ (m := aM) (by rw [View.set_whole cc0_stg0_0]; exact Finset.subset_univ _)) $$ H
  iintro H
  rw [readAt_a]
  obtain rfl : g = X := (read_a g).symm.trans hg
  iapply Hk
  iexists g; isplitr
  · ipureintro; exact hg
  · iexact H

theorem load_b (q : PosShare TreeShare) (X : FVec F S1024x2048 .f32) {inb} {hl}
    {k : Vec F S1024x2048 .f32 → Prog (TpuEff nD τ sig (Elt F) Λ₀ .tc) α} :
    (holds c bM q X) ⊢ iprop((holds c bM q X -∗ WP c (k X) Q)
      -∗ WP c (.op (.load bM (Rect.unit (s := S1024x2048) ![0, 0] S1024x2048.size inb).toLoadRect hl) k) Q) := by
  unfold holds
  iintro ⟨%g, %hg, H⟩ Hk
  iapply (wp_load 𝒱₀ (c : Thread nD τ) none Set.univ (m := bM) (by rw [View.set_whole cc0_stg1_0]; exact Finset.subset_univ _)) $$ H
  iintro H
  rw [readAt_b]
  obtain rfl : g = X := (read_b g).symm.trans hg
  iapply Hk
  iexists g; isplitr
  · ipureintro; exact hg
  · iexact H

/-- A load of the product's buffer, whatever it holds: the program continues at some value. -/
theorem load_acc {inb} {hl} {k : Vec F S2048x2048 .f32 → Prog (TpuEff nD τ sig (Elt F) Λ₀ .tc) α} :
    (some' c accM fullShare) ⊢ iprop((∀ v, some' c accM fullShare -∗ WP c (k v) Q)
      -∗ WP c (.op (.load accM (Rect.unit (s := S2048x2048) ![0, 0] S2048x2048.size inb).toLoadRect hl) k) Q) := by
  unfold some'
  iintro ⟨%g, H⟩ Hk
  iapply (wp_load 𝒱₀ (c : Thread nD τ) none Set.univ (m := accM) (by rw [View.set_whole cc0_scratch1]; exact Finset.subset_univ _)) $$ H
  iintro H
  iapply Hk
  iexists g; iexact H

/-- A store of the whole product. -/
theorem store_acc {inb} {hx} {hm} (X : FVec F S2048x2048 .f32) {k : PUnit → Prog (TpuEff nD τ sig (Elt F) Λ₀ .tc) α} :
    (some' c accM fullShare) ⊢ iprop((holds c accM fullShare X -∗ WP c (k ⟨⟩) Q)
      -∗ WP c (.op (.store accM (Rect.unit (s := S2048x2048) ![0, 0] S2048x2048.size inb) X Finset.univ hx hm) k) Q) := by
  unfold some' holds
  iintro ⟨%g, H⟩ Hk
  iapply (wp_store 𝒱₀ (c : Thread nD τ) none Set.univ (m := accM) (r := Rect.unit (s := S2048x2048) ![0, 0] S2048x2048.size inb) (Mk := Finset.univ)
    (Memref.setOn_access_subset accM _ _)) $$ H
  iintro H
  iapply Hk
  iexists (accM.access (Rect.unit (s := S2048x2048) ![0, 0] S2048x2048.size inb)).write (Elt F) g X Finset.univ; isplitr
  · ipureintro
    refine (read_acc _).trans ?_
    exact Memref.write_access_unit_zero_univ (Elt F) cc0_scratch1 hz2 _ g X
  · iexact H

theorem set_slot0 : slot0.view.set = (commM.view.slice r3_0).set := View.set_reshape _ _
theorem set_slot1 : slot1.view.set = (commM.view.slice r3_1).set := View.set_reshape _ _

/-- A load of a slot reads the block that it holds, with a leading axis of extent one. -/
theorem load_slot0 (q : PosShare TreeShare) (X : FVec F S2048x1024 .f32) {hl}
    {k : Vec F S1x2048x1024 .f32 → Prog (TpuEff nD τ sig (Elt F) Λ₀ .tc) α} :
    (holds c slot0 q X) ⊢ iprop((∀ v, ⌜shapeCast S2048x1024 v shapeCasts_S1x2048x1024_S2048x1024 = X⌝ -∗ holds c slot0 q X -∗ WP c (k v) Q)
      -∗ WP c (.op (.load commM r3_0.toLoadRect hl) k) Q) := by
  unfold holds
  iintro ⟨%g, %hg, H⟩ Hk
  iapply (wp_load 𝒱₀ (c : Thread nD τ) none Set.univ (m := commM) (S := slot0.view.set) (by
    rw [set_slot0, View.set_slice]; exact Finset.Subset.refl _)) $$ H
  iintro H
  iapply Hk $$ [] [H]
  · ipureintro; exact hg
  · iexists g; isplitr; · ipureintro; exact hg
    iexact H

theorem load_slot1 (q : PosShare TreeShare) (X : FVec F S2048x1024 .f32) {hl}
    {k : Vec F S1x2048x1024 .f32 → Prog (TpuEff nD τ sig (Elt F) Λ₀ .tc) α} :
    (holds c slot1 q X) ⊢ iprop((∀ v, ⌜shapeCast S2048x1024 v shapeCasts_S1x2048x1024_S2048x1024 = X⌝ -∗ holds c slot1 q X -∗ WP c (k v) Q)
      -∗ WP c (.op (.load commM r3_1.toLoadRect hl) k) Q) := by
  unfold holds
  iintro ⟨%g, %hg, H⟩ Hk
  iapply (wp_load 𝒱₀ (c : Thread nD τ) none Set.univ (m := commM) (S := slot1.view.set) (by
    rw [set_slot1, View.set_slice]; exact Finset.Subset.refl _)) $$ H
  iintro H
  iapply Hk $$ [] [H]
  · ipureintro; exact hg
  · iexists g; isplitr; · ipureintro; exact hg
    iexact H

end Mem

end Cert.KernelIdeal.Ring

end
-- ==== Proof.KernelIdealRing.Trip.lean ====
/-
# One trip of the kernel's loop

Trip `j` sends hops `2j + 1` and `2j + 2`, and forms the products of the two blocks that it sends on. This module states what
a device holds before a trip (`inv`), what of it the trip uses up (`kit`), and that a trip takes the state before it to
the state before the next, part by part of the program.
-/
module

public import proofs.«01_k».proof.Proof.KernelIdealRing.Steps
public import Idealize.ShloMosaic.Lib.Pipeline.Value

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Fin 6 → ℕ)

/-! ## The program's words: offsets, conditions, payloads -/

theorem trip_lt (t : Fin k0_t1_loop.trips) : t.val < 15 := Nat.lt_of_lt_of_le t.isLt k0_t1_abs.2.1
theorem trips_eq : k0_t1_loop.trips = 15 := by decide +kernel

theorem off1_own (c : Dev nD) : k0_off1 c 32#32 = ![2048 * (org c 0).val, 0] := by revert c; decide +kernel
theorem off1_last (c : Dev nD) : k0_off1 c 1#32 = ![2048 * (org c 31).val, 0] := by revert c; decide +kernel
theorem off3_odd (c : Dev nD) (t : Fin k0_t1_loop.trips) : k0_off3 c t 1#32 = ![2048 * (org c (2 * t.val + 1)).val, 0] := by
  refine (k0_off3_eq c t 0).trans ?_
  have h := trip_lt t
  have hc : c.val < 32 := c.isLt
  have e : (c.val + 31 - (2 * t.val + (0 : Fin 2).val)) % 32 = (org c (2 * t.val + 1)).val := by
    show (c.val + 31 - (2 * t.val + 0)) % 32 = (c.val + 31 * (2 * t.val + 1)) % 32
    omega
  rw [e]
theorem off3_even (c : Dev nD) (t : Fin k0_t1_loop.trips) : k0_off3 c t 2#32 = ![2048 * (org c (2 * t.val + 2)).val, 0] := by
  refine (k0_off3_eq c t 1).trans ?_
  have h := trip_lt t
  have hc : c.val < 32 := c.isLt
  have e : (c.val + 31 - (2 * t.val + (1 : Fin 2).val)) % 32 = (org c (2 * t.val + 2)).val := by
    show (c.val + 31 - (2 * t.val + 1)) % 32 = (c.val + 31 * (2 * t.val + 2)) % 32
    omega
  rw [e]

/-- The condition of the wait at a trip's start holds from trip `1` on; -/
theorem cond1_iff (t : Fin k0_t1_loop.trips) :
    Scalar.cmpi .ne (Scalar.extui (Scalar.cmpi .sge (Scf.iv 0#32 1#32 t) 1#32) : BitVec 32) 0#32 = 1#1 ↔ 1 ≤ t.val := by
  revert t; decide +kernel
/-- that of the signal at its end up to trip `13`. -/
theorem cond2_iff (t : Fin k0_t1_loop.trips) : k0_cond2 t = 1#1 ↔ t.val < 14 := by revert t; decide +kernel

/-- What the send of a hop gives back, by its parity: the half of the other slot, and on hop `0` that of the staged block. -/
theorem sendPay_true (c : Dev nD) (r : ℕ) : (sendPay true c r : sProp 𝕄) = some' c slot0 fullShare.left := by
  unfold sendPay; rw [if_neg (by simp)]; rfl
theorem sendPay_false (c : Dev nD) (r : ℕ) : (sendPay false c (r + 1) : sProp 𝕄) = some' c slot1 fullShare.left := by
  unfold sendPay; rw [if_neg (by simp)]; rfl
theorem sendPay_zero (c : Dev nD) : (sendPay false c 0 : sProp 𝕄) = some' c aM fullShare.left := by
  unfold sendPay; rw [if_pos ⟨rfl, rfl⟩]

/-- The credit of a block's transfer, whichever buffer it fills. -/
theorem credit_slot (p : Bool) : (slotM p).view.dmaCredit = N := by cases p <;> rfl
theorem credit_a : aM.view.dmaCredit = N := rfl

/-- The stored values are the product of the values loaded. -/
theorem pay_slot {v : Vec F S1x2048x1024 .f32} {X : FVec F S2048x1024 .f32} (h : shapeCast S2048x1024 v shapeCasts_S1x2048x1024_S2048x1024 = X)
    (Y : FVec F S1024x2048 .f32) : k0_pay5 v Y = mm X Y := by
  subst h; unfold k0_pay5 mm; simp only [shapeCast_self]
theorem pay_last {v : Vec F S1x2048x1024 .f32} {X : FVec F S2048x1024 .f32} (h : shapeCast S2048x1024 v shapeCasts_S1x2048x1024_S2048x1024 = X)
    (Y : FVec F S1024x2048 .f32) : k0_pay1 v Y = mm X Y := by
  subst h; unfold k0_pay1 mm; simp only [shapeCast_self]
theorem pay_mid (X : FVec F S2048x1024 .f32) (Y : FVec F S1024x2048 .f32) : k0_pay4 X Y = mm X Y := by
  unfold k0_pay4 mm; simp only [shapeCast_self]
theorem pay_b (Y : FVec F S1024x2048 .f32) : k0_pay3 Y = Y := by
  unfold k0_pay3; simp only [shapeCast_self]
theorem pay_own (X : FVec F S2048x1024 .f32) (Y : FVec F S1024x2048 .f32) : k0_pay7 (k0_pay6 X Y) = mm X Y := by
  unfold k0_pay7 k0_pay6 mm; simp only [shapeCast_self]

/-! ## What a device still owes inside a trip -/

/-- After the trip's first send; -/
def owedA (c : Dev nD) (j : ℕ) : CellTallies nD τ sig ℕ := ((restO c (j + 1) + crO' c j) + hopO c false (j + 1)) + crO c (2 * j)
/-- after its first credit; -/
def owedB (c : Dev nD) (j : ℕ) : CellTallies nD τ sig ℕ := (restO c (j + 1) + crO' c j) + hopO c false (j + 1)
/-- after its second send. -/
def owedC (c : Dev nD) (j : ℕ) : CellTallies nD τ sig ℕ := restO c (j + 1) + crO' c j

theorem owed_start (c : Dev nD) {j : ℕ} (hj : j < 15) : restO c j = owedA c j + hopO c true j := restO_step c hj
theorem above_C (c : Dev nD) {j n : ℕ} (hn : n < 4 * j + 7) : Above n (owedC c j) := (above_rest c (by omega)).add (above_cr' c hn)
theorem above_B (c : Dev nD) {j n : ℕ} (hj : j < 15) (hn : n < 4 * j + 6) : Above n (owedB c j) :=
  (above_C c (by omega)).add (above_hop c false (by omega) (by simp only [Bool.toNat_false]; omega))
theorem above_A (c : Dev nD) {j n : ℕ} (hj : j < 15) (hn : n < 4 * j + 5) : Above n (owedA c j) :=
  (above_B c hj (by omega)).add (above_cr c (by omega) (by omega))

/-! ## What a device holds at a trip's start -/

/-- Before trip `j`, the right neighbour's slot `1`: in hand at trip `0`, then behind credit `2j - 1`; after the last trip the
    device's own slot `1`. -/
def front (c : Dev nD) (j : ℕ) : sProp 𝕄 :=
  if j = 0 then iprop(some' (nxt c) slot1 fullShare ∗ atPos ER (crCell c) 0 ∅ 0)
  else if j < 15 then iprop(cred (tallyAt (crCell c) (2 * j - 1) 1) ∗ atPos ER (crCell c) (2 * j - 1) ∅ 0)
  else iprop(some' c slot1 fullShare ∗ atPos ER (crCell c) 29 ∅ 0)
/-- What the credit at the end of trip `j`, and the one awaited for it, use up. -/
def late (c : Dev nD) (j : ℕ) : sProp 𝕄 :=
  if j < 14 then iprop(dutyTok ER (crCell (prv c)) (2 * j + 1) false ∗ cred (tallyAt (crCell c) (2 * j + 1) 1)) else iprop(emp)
/-- The row block of hop `h` before its product is written, and after. -/
def blank (c : Dev nD) (h : ℕ) : sProp 𝕄 := some' c (rowsM (org c h)) fullShare
def done (c : Dev nD) (h : ℕ) : sProp 𝕄 := holds c (rowsM (org c h)) fullShare (prod m c (org c h))
/-- The copy of the product of hop `h` in flight. -/
def flying (c : Dev nD) (p : Bool) (h : ℕ) : sProp 𝕄 :=
  Transfers.Flight EC (c : Thread nD τ) (.dma (copyS p)) 0 NC iprop(done m c h ∗ some' c accM fullShare)

section Parts

variable (c : Dev nD) (t : Fin k0_t1_loop.trips)

omit t in
/-- A program that has ended. -/
theorem wp_done {α : Type} (a : α) {Q : α → sProp (MT nD τ sig ℕ (Elt F) ℕ UU ℕ)} : Q a ⊢ WP (F := F) c (.ret a) Q := by
  unfold WP
  rw [wp_ret]
  iintro H
  imodintro
  iexact H
omit t in
/-- A program in two parts, by what holds between them. -/
theorem wp_seq {α β : Type} {p : Prog (TpuEff nD τ sig (Elt F) Λ₀ .tc) α} {k : α → Prog (TpuEff nD τ sig (Elt F) Λ₀ .tc) β}
    {Q : β → sProp (MT nD τ sig ℕ (Elt F) ℕ UU ℕ)} (R : α → sProp (MT nD τ sig ℕ (Elt F) ℕ UU ℕ)) :
    iprop(WP c p R ∗ (∀ a, R a -∗ WP c (k a) Q)) ⊢ WP (F := F) c (p >>= k) Q := by
  unfold WP
  rw [wp_bind]
  iintro ⟨H, HK⟩
  iapply (wp_wand_r frame (wpE (defs₀ (F := F)) 𝒱₀ (c : Thread nD τ) none) Set.univ)
  isplitl [H]
  · iexact H
  · iintro %a HR
    iapply HK; iexact HR

/-- The wait at a trip's start: afterwards the right neighbour's slot `1` is in hand. -/
theorem front_step {α : Type} {Q : α → sProp (MT nD τ sig ℕ (Elt F) ℕ UU ℕ)} {k : Prog (TpuEff nD τ sig (Elt F) Λ₀ .tc) α} {z : ℤ}
    (hz : z = ((1 : ℕ) : ℤ)) :
    iprop(ctx m K ∗ owing c (restO c t.val) ∗ front c t.val)
      ⊢ iprop(((owing c (restO c t.val) ∗ some' (nxt c) slot1 fullShare ∗ reached ER (recvCell true (nxt c)) t.val
          ∗ atPos ER (crCell c) (2 * t.val) ∅ 0 ∗ reached ER (crCell c) (2 * t.val)) -∗ WP c k Q)
        -∗ WP c (dite (Scalar.cmpi .ne (Scalar.extui (Scalar.cmpi .sge (Scf.iv 0#32 1#32 t) 1#32) : BitVec 32) 0#32 = 1#1)
          (fun _ => .op (.semWait crS z) fun _ => k) (fun _ => k)) Q) := by
  have ht := trip_lt t
  unfold front
  by_cases h : 1 ≤ t.val
  · rw [if_neg (by omega), if_pos (by omega), dif_pos ((cond1_iff t).mpr h)]
    iintro ⟨#Hc, HO, Hcr, Hat⟩ Hk
    iapply (wait_credit m K (2 * t.val - 1) (by omega) (p := true) (by rw [show (2 * t.val - 1) % 2 = 1 from by omega]; rfl) (u := t.val) (by omega)
      hz (above_rest c (j := t.val) (by omega))) $$ [HO Hcr Hat]
    · isplitr; · iexact Hc
      isplitl [HO]; · iexact HO
      isplitl [Hcr] <;> iassumption
    iintro ⟨HO, Hat, Hr, Hs, Hr'⟩
    rw [show 2 * t.val - 1 + 1 = 2 * t.val from by omega]
    iapply Hk
    isplitl [HO]; · iexact HO
    isplitl [Hs]; · iexact Hs
    isplitl [Hr']; · iexact Hr'
    isplitl [Hat] <;> iassumption
  · have h0 : t.val = 0 := by omega
    rw [dif_neg (fun h' => h ((cond1_iff t).mp h')), h0, if_pos rfl]
    iintro ⟨#Hc, HO, Hs, Hat⟩ Hk
    iapply Hk
    isplitl [HO]; · iexact HO
    isplitl [Hs]; · iexact Hs
    isplitr; · iapply (reached_recv m K true (nxt c)); iexact Hc
    isplitl [Hat]; · iexact Hat
    iapply (reached_cr m K c); iexact Hc

/-- The first part: the send of hop `2j + 1`, the wait for the product before, the loads of slot `0` and of `B`. -/
theorem part1_spec (v2 v7 : BitVec 32) (X : FVec F S2048x1024 .f32) (hX : X = xblk m (org c (2 * t.val + 1))) (Y : FVec F S1024x2048 .f32) :
    iprop(ctx m K ∗ owing c (restO c t.val) ∗ front c t.val ∗ holds c slot0 fullShare X
        ∗ dutyTok ER (sendCell true c) t.val false ∗ reached ER (sendCell true c) t.val ∗ dutyTok ER (recvCell true (nxt c)) t.val false
        ∗ flying m c false (2 * t.val) ∗ holds c bM fullShare Y)
      ⊢ WP c (k0_part1 (F := F) aM (Memref.isWhole_whole _) bM (Memref.isWhole_whole _) oM (Memref.isWhole_whole _) commM (Memref.isWhole_whole _) accM (Memref.isWhole_whole _)
            cc0_scratch2 cc0_scratch3 cc0_scratch4 cc0_scratch5 c v2 v7 0#32 1#32 t)
          (fun r => iprop(⌜r.2.2.1 = X ∧ r.2.2.2 = Y⌝ ∗ owing c (owedA c t.val) ∗ holds c slot0 fullShare.right X
            ∗ cred (tallyAt (sendCell true c) 0 N) ∗ atPos ER (crCell c) (2 * t.val) ∅ 0 ∗ reached ER (crCell c) (2 * t.val)
            ∗ done m c (2 * t.val) ∗ some' c accM fullShare ∗ semVal (copyCell false c) 0 ∗ holds c bM fullShare Y)) := by
  have ht := trip_lt t
  simp only [k0_part1_eq_skeleton]
  unfold k0_part1_skel
  simp only [semWaitWord, Prog.lift, Prog.bind_op, Prog.bind_ret, Prog.pure_eq_ret]
  iintro ⟨#Hc, HO, Hf, Hs, Ht1, Hr1, Ht2, Hfl, Hb⟩
  iapply (front_step m K c t (by decide)) $$ [HO Hf]
  · isplitr; · iexact Hc
    isplitl [HO] <;> iassumption
  iintro ⟨HO, Hd, Hr2, Hat, #Hr3⟩
  rw [owed_start c ht]
  iapply (send_hop m K true t.val (by simp only [Bool.toNat_true]; omega) (u := 2 * t.val) (by simp only [Bool.toNat_true]; omega) slot0 (Entails.of_eq (sendPay_true c t.val).symm) _ (dev4_eq c)
    (owedA c t.val) X hX) $$ [HO Hs Hd Ht1 Hr1 Ht2 Hr2]
  · isplitr; · iexact Hc
    isplitl [HO]; · iexact HO
    isplitl [Hs]; · iexact Hs
    isplitl [Hd]; · iexact Hd
    isplitl [Ht1]; · iexact Ht1
    isplitl [Hr1]; · iexact Hr1
    isplitl [Ht2]; · iexact Ht2
    isplitl [Hr2]; · iexact Hr2
    iexact Hr3
  iintro ⟨HO, Hs, Hcs⟩
  unfold flying
  iapply (wait_copy m K false (NC_eq _ _ _) _ (above_A c ht (n := 0) (by omega))) $$ [HO Hfl]
  · isplitr; · iexact Hc
    isplitl [HO] <;> iassumption
  iintro ⟨HO, ⟨Hdn, Hacc⟩, Hv⟩
  iapply (load_slot0 (c := c) fullShare.right X) $$ Hs
  iintro %v %hv Hs
  iapply (load_b (c := c) fullShare Y) $$ Hb
  iintro Hb
  iapply (wp_done (F := F) c)
  isplitr
  · ipureintro; exact ⟨hv, pay_b Y⟩
  isplitl [HO]; · iexact HO
  isplitl [Hs]; · iexact Hs
  isplitl [Hcs]; · iexact Hcs
  isplitl [Hat]; · iexact Hat
  isplitr; · iexact Hr3
  isplitl [Hdn]; · iexact Hdn
  isplitl [Hacc]; · iexact Hacc
  isplitl [Hv] <;> iassumption

/-- The second part: the product of the block in slot `0` is stored and copied out, hop `2j + 1` is over on both sides. -/
theorem part2_spec (v2 v5 v7 v70 : BitVec 32) (X : FVec F S2048x1024 .f32) (hX : X = xblk m (org c (2 * t.val + 1))) (Y : FVec F S1024x2048 .f32)
    (hY : Y = yblk m c) :
    iprop(ctx m K ∗ owing c (owedA c t.val) ∗ some' c accM fullShare ∗ blank c (2 * t.val + 1) ∗ semVal (copyCell true c) 0
        ∗ cred (tallyAt (sendCell true c) 0 N) ∗ atPos ER (sendCell true c) t.val ∅ 0 ∗ holds c slot0 fullShare.right X
        ∗ cred (tallyAt (recvCell true c) t.val N) ∗ atPos ER (recvCell true c) t.val ∅ 0)
      ⊢ WP c (k0_part2 (F := F) aM (Memref.isWhole_whole _) bM (Memref.isWhole_whole _) oM (Memref.isWhole_whole _) commM (Memref.isWhole_whole _) accM (Memref.isWhole_whole _)
            cc0_scratch2 cc0_scratch3 cc0_scratch4 cc0_scratch5 c v2 v5 v7 t v70 X Y)
          (fun _ => iprop(owing c (owedA c t.val) ∗ flying m c true (2 * t.val + 1)
            ∗ atPos ER (sendCell true c) (t.val + 1) ∅ 0 ∗ reached ER (sendCell true c) (t.val + 1) ∗ holds c slot0 fullShare X
            ∗ atPos ER (recvCell true c) (t.val + 1) ∅ 0 ∗ reached ER (recvCell true c) (t.val + 1)
            ∗ holds c slot1 fullShare (xblk m (org c (2 * t.val + 2))) ∗ reached ER (crCell (prv c)) (2 * t.val))) := by
  have ht := trip_lt t
  simp only [k0_part2_eq_skeleton]
  unfold k0_part2_skel
  simp only [Prog.lift, Prog.bind_op, Prog.bind_ret, Prog.pure_eq_ret]
  iintro ⟨#Hc, HO, Hacc, Hbl, Hv, Hcs, Has, Hs, Hcr, Har⟩
  iapply (load_acc (c := c)) $$ Hacc
  iintro %v Hacc
  rw [pay_mid]
  iapply (store_acc (c := c) (mm X Y)) $$ Hacc
  iintro Hacc
  unfold blank
  iapply (copy_out (c := c) true (org c (2 * t.val + 1)) _ (off3_odd c t) (mm X Y)) $$ [Hacc Hbl Hv]
  · isplitl [Hacc]; · iexact Hacc
    isplitl [Hbl] <;> iassumption
  iintro Hfl
  iapply (wait_send m K true t.val (by simp only [Bool.toNat_true]; omega) (credit_slot false) (above_A c ht (n := 0) (by omega))) $$ [HO Hcs Has]
  · isplitr; · iexact Hc
    isplitl [HO]; · iexact HO
    isplitl [Hcs] <;> iassumption
  iintro ⟨HO, Has, Hrs, Hpay⟩
  iapply (wait_recv m K true t.val (by simp only [Bool.toNat_true]; omega) (h := 2 * t.val + 2) (u := 2 * t.val)
    (by simp only [Bool.toNat_true]) (by simp only [Bool.toNat_true]; omega) (credit_slot true)
    (above_A c ht (by simp only [Bool.toNat_true]; omega))) $$ [HO Hcr Har]
  · isplitr; · iexact Hc
    isplitl [HO]; · iexact HO
    isplitl [Hcr] <;> iassumption
  iintro ⟨HO, Har, Hrr, Hs1, Hrc⟩
  iapply (wp_done (F := F) c)
  isplitl [HO]; · iexact HO
  isplitl [Hfl]
  · unfold flying done prod; rw [← hX, ← hY]; iexact Hfl
  isplitl [Has]; · iexact Has
  isplitl [Hrs]; · iexact Hrs
  isplitl [Hpay Hs]
  · iapply (holds_join c slot0 X)
    isplitl [Hpay]
    · iapply (Entails.of_eq (sendPay_true (F := F) c t.val)); iexact Hpay
    iexact Hs
  isplitl [Har]; · iexact Har
  isplitl [Hrr]; · iexact Hrr
  isplitl [Hs1] <;> iassumption

/-- The third part: slot `0` goes to the left neighbour, hop `2j + 2` is sent, the product before has arrived, and the product of
    the block in slot `1` is stored. -/
theorem part3_spec (v2 v7 v72 v123 w : BitVec 32) (X : FVec F S2048x1024 .f32) (hX : X = xblk m (org c (2 * t.val + 2))) (Y : FVec F S1024x2048 .f32) :
    iprop(ctx m K ∗ owing c (owedA c t.val) ∗ dutyTok ER (crCell (prv c)) (2 * t.val) false ∗ some' c slot0 fullShare
        ∗ reached ER (recvCell false c) (t.val + 1) ∗ reached ER (crCell (prv c)) (2 * t.val)
        ∗ cred (tallyAt (crCell c) (2 * t.val) 1) ∗ atPos ER (crCell c) (2 * t.val) ∅ 0
        ∗ holds c slot1 fullShare X ∗ dutyTok ER (sendCell false c) (t.val + 1) false ∗ reached ER (sendCell false c) (t.val + 1)
        ∗ dutyTok ER (recvCell false (nxt c)) (t.val + 1) false ∗ flying m c true (2 * t.val + 1) ∗ holds c bM fullShare Y)
      ⊢ WP c (k0_part3 (F := F) aM (Memref.isWhole_whole _) bM (Memref.isWhole_whole _) oM (Memref.isWhole_whole _) commM (Memref.isWhole_whole _) accM (Memref.isWhole_whole _)
            cc0_scratch2 cc0_scratch3 cc0_scratch4 cc0_scratch5 c v2 v7 t v72 v123 w)
          (fun _ => iprop(owing c (owedC c t.val) ∗ atPos ER (crCell c) (2 * t.val + 1) ∅ 0 ∗ holds c slot1 fullShare.right X
            ∗ cred (tallyAt (sendCell false c) 0 N) ∗ done m c (2 * t.val + 1) ∗ semVal (copyCell true c) 0
            ∗ holds c accM fullShare (mm X Y) ∗ holds c bM fullShare Y)) := by
  have ht := trip_lt t
  simp only [k0_part3_eq_skeleton]
  unfold k0_part3_skel
  simp only [semSignalWord, semWaitWord, Prog.lift, Prog.bind_op, Prog.bind_ret, Prog.pure_eq_ret]
  iintro ⟨#Hc, HO, Htc, Hs0, Hr0, Hrc, Hcc, Hac, Hs, Ht1, Hr1, Ht2, Hfl, Hb⟩
  iapply (signal_credit m K (2 * t.val) (by omega) (p := false) (by rw [show 2 * t.val % 2 = 0 from by omega]; rfl) (u := t.val + 1) (by omega)
    _ (dev5_eq c) (by decide) (owedB c t.val)) $$ [HO Htc Hs0 Hr0 Hrc]
  · isplitr; · iexact Hc
    isplitl [HO]; · iexact HO
    isplitl [Htc]; · iexact Htc
    isplitl [Hs0]; · iexact Hs0
    isplitl [Hr0] <;> iassumption
  iintro HO
  iapply (wait_credit m K (2 * t.val) (by omega) (p := false) (by rw [show 2 * t.val % 2 = 0 from by omega]; rfl) (u := t.val + 1) (by omega)
    (by decide) (above_B c ht (by omega))) $$ [HO Hcc Hac]
  · isplitr; · iexact Hc
    isplitl [HO]; · iexact HO
    isplitl [Hcc] <;> iassumption
  iintro ⟨HO, Hac, Hrc, Hd, Hr2⟩
  iapply (send_hop m K false (t.val + 1) (by simp only [Bool.toNat_false]; omega) (u := 2 * t.val + 1) (by simp only [Bool.toNat_false]; omega) slot1
    (Entails.of_eq (sendPay_false c t.val).symm) _ (dev6_eq c)
    (owedC c t.val) X (by rw [hX]; congr 2)) $$ [HO Hs Hd Ht1 Hr1 Ht2 Hr2 Hrc]
  · isplitr; · iexact Hc
    isplitl [HO]; · iexact HO
    isplitl [Hs]; · iexact Hs
    isplitl [Hd]; · iexact Hd
    isplitl [Ht1]; · iexact Ht1
    isplitl [Hr1]; · iexact Hr1
    isplitl [Ht2]; · iexact Ht2
    isplitl [Hr2] <;> iassumption
  iintro ⟨HO, Hs, Hcs⟩
  unfold flying
  iapply (wait_copy m K true (NC_eq _ _ _) _ (above_C c (n := 0) (by omega))) $$ [HO Hfl]
  · isplitr; · iexact Hc
    isplitl [HO] <;> iassumption
  iintro ⟨HO, ⟨Hdn, Hacc⟩, Hv⟩
  iapply (load_slot1 (c := c) fullShare.right X) $$ Hs
  iintro %v %hv Hs
  iapply (load_b (c := c) fullShare Y) $$ Hb
  iintro Hb
  iapply (load_acc (c := c)) $$ Hacc
  iintro %v' Hacc
  rw [pay_slot hv]
  iapply (store_acc (c := c) (mm X Y)) $$ Hacc
  iintro Hacc
  iapply (wp_done (F := F) c)
  isplitl [HO]; · iexact HO
  isplitl [Hac]; · iexact Hac
  isplitl [Hs]; · iexact Hs
  isplitl [Hcs]; · iexact Hcs
  isplitl [Hdn]; · iexact Hdn
  isplitl [Hv]; · iexact Hv
  isplitl [Hacc] <;> iassumption

/-- The signal at a trip's end, of slot `1`: afterwards the device is at the start of the next trip. -/
theorem back_step {α : Type} {Q : α → sProp (MT nD τ sig ℕ (Elt F) ℕ UU ℕ)} {k : Prog (TpuEff nD τ sig (Elt F) Λ₀ .tc) α} {z : ℤ}
    (hz : z = ((1 : ℕ) : ℤ)) :
    iprop(ctx m K ∗ owing c (owedC c t.val) ∗ late c t.val ∗ some' c slot1 fullShare ∗ reached ER (recvCell true c) (t.val + 1)
        ∗ reached ER (crCell (prv c)) (2 * t.val + 1) ∗ atPos ER (crCell c) (2 * t.val + 1) ∅ 0)
      ⊢ iprop(((owing c (restO c (t.val + 1)) ∗ front c (t.val + 1)) -∗ WP c k Q)
        -∗ WP c (dite (k0_cond2 t = 1#1)
          (fun h => .op (.semSignal ((⟨k0_dev7 c, k0_dev7_lt c t h⟩ : Dev nD) : Thread nD τ) crS z) fun _ => k) (fun _ => k)) Q) := by
  have ht := trip_lt t
  unfold late front owedC crO'
  rw [if_neg (Nat.succ_ne_zero t.val)]
  by_cases h : t.val < 14
  · rw [if_pos h, if_pos h, if_pos (by omega), dif_pos ((cond2_iff t).mpr h)]
    iintro ⟨#Hc, HO, ⟨Ht, Hcr⟩, Hs, Hr, Hrc, Hat⟩ Hk
    iapply (signal_credit m K (2 * t.val + 1) (by omega) (p := true) (by rw [show (2 * t.val + 1) % 2 = 1 from by omega]; rfl) (u := t.val + 1)
      (by omega) _ (dev7_eq c t ((cond2_iff t).mpr h)) hz (restO c (t.val + 1))) $$ [HO Ht Hs Hr Hrc]
    · isplitr; · iexact Hc
      isplitl [HO]; · iexact HO
      isplitl [Ht]; · iexact Ht
      isplitl [Hs]; · iexact Hs
      isplitl [Hr] <;> iassumption
    iintro HO
    iapply Hk
    isplitl [HO]; · iexact HO
    rw [show 2 * (t.val + 1) - 1 = 2 * t.val + 1 from by omega]
    isplitl [Hcr] <;> iassumption
  · rw [if_neg h, if_neg h, if_neg (by omega), dif_neg (fun h' => h ((cond2_iff t).mp h')), add_zero, show 2 * t.val + 1 = 29 from by omega]
    iintro ⟨#Hc, HO, -, Hs, -, -, Hat⟩ Hk
    iapply Hk
    isplitl [HO]; · iexact HO
    isplitl [Hs] <;> iassumption

end Parts

/-! ## The invariant -/

/-- What trip `j` uses up: the tokens of its two hops and two credits, the credits it awaits, and two row blocks. -/
def kit (c : Dev nD) (j : ℕ) : sProp 𝕄 :=
  iprop(dutyTok ER (sendCell true c) j false ∗ dutyTok ER (recvCell true (nxt c)) j false ∗ cred (tallyAt (recvCell true c) j N) ∗ blank c (2 * j + 1)
    ∗ dutyTok ER (crCell (prv c)) (2 * j) false ∗ cred (tallyAt (crCell c) (2 * j) 1)
    ∗ dutyTok ER (sendCell false c) (j + 1) false ∗ dutyTok ER (recvCell false (nxt c)) (j + 1) false ∗ cred (tallyAt (recvCell false c) (j + 1) N)
    ∗ blank c (2 * j + 2) ∗ late c j)

/-- What a device holds before trip `j`, the trips' kits and the finished row blocks aside. -/
def core (c : Dev nD) (j : ℕ) : sProp 𝕄 :=
  iprop(owing c (restO c j) ∗ front c j ∗ holds c slot0 fullShare (xblk m (org c (2 * j + 1))) ∗ flying m c false (2 * j)
    ∗ semVal (copyCell true c) 0 ∗ holds c bM fullShare (yblk m c)
    ∗ atPos ER (sendCell false c) (j + 1) ∅ 0 ∗ reached ER (sendCell false c) (j + 1) ∗ atPos ER (sendCell true c) j ∅ 0 ∗ reached ER (sendCell true c) j
    ∗ atPos ER (recvCell false c) (j + 1) ∅ 0 ∗ reached ER (recvCell false c) (j + 1) ∗ atPos ER (recvCell true c) j ∅ 0)

/-- Everything a device holds before trip `j`. -/
def inv (c : Dev nD) (j : ℕ) : sProp 𝕄 :=
  iprop(ctx m K ∗ core m c j ∗ (bigSep (Finset.range (2 * j)) fun h => done m c h) ∗ bigSep (Finset.Ico j 15) fun i => kit c i)

omit [FloatOps F] in
theorem kits_step (c : Dev nD) {j : ℕ} (hj : j < 15) :
    (bigSep (Finset.Ico j 15) fun i => kit c i : sProp 𝕄) = iprop(kit c j ∗ bigSep (Finset.Ico (j + 1) 15) fun i => kit c i) := by
  rw [show Finset.Ico j 15 = insert j (Finset.Ico (j + 1) 15) from by
    ext x; simp only [Finset.mem_insert, Finset.mem_Ico]; omega, bigSep_insert (by simp)]
  rfl
theorem range_step (n : ℕ) (Φ : ℕ → sProp 𝕄) :
    bigSep (Finset.range (n + 1)) Φ = iprop(Φ n ∗ bigSep (Finset.range n) Φ) := by
  rw [Finset.range_add_one, bigSep_insert (by simp)]
  rfl

/-- One trip. -/
theorem trip_spec (c : Dev nD) (v2 v5 v7 : BitVec 32) (v25 : FVec F S2048x2048 .f32) (t : Fin k0_t1_loop.trips) (a : Unit) :
    inv m K c t.val ⊢ WP c (k0_t1_body (F := F) aM (Memref.isWhole_whole _) bM (Memref.isWhole_whole _) oM (Memref.isWhole_whole _) commM (Memref.isWhole_whole _) accM (Memref.isWhole_whole _)
            cc0_scratch2 cc0_scratch3 cc0_scratch4 cc0_scratch5 c v2 v5 v7 v25 t a) (fun _ => inv m K c (t.val + 1)) := by
  have ht := trip_lt t
  unfold inv
  rw [kits_step c ht, show 2 * (t.val + 1) = 2 * t.val + 1 + 1 from by omega, range_step, range_step]
  unfold kit core k0_t1_body
  iintro ⟨#Hc, ⟨HO, Hf, Hs0, Hfl, Hv1, Hb, As0, #Rs0, As1, #Rs1, Ar0, #Rr0, Ar1⟩, Hdone, ⟨Ts1, Tr1, Cr1, B1, Tc, Cc, Ts0, Tr0, Cr0, B2, Hlate⟩, Hkits⟩
  iapply (wp_seq (F := F) c _)
  isplitl [HO Hf Hs0 Ts1 Tr1 Hfl Hb]
  · iapply (part1_spec m K c t v2 v7 _ rfl _)
    isplitr; · iexact Hc
    isplitl [HO]; · iexact HO
    isplitl [Hf]; · iexact Hf
    isplitl [Hs0]; · iexact Hs0
    isplitl [Ts1]; · iexact Ts1
    isplitr; · iexact Rs1
    isplitl [Tr1]; · iexact Tr1
    isplitl [Hfl] <;> iassumption
  iintro %r ⟨%hr, HO, Hs0, Cs1, Ac, #Rc, Hd0, Hacc, Hv0, Hb⟩
  obtain ⟨v70, v72, v95, v97⟩ := r
  obtain ⟨rfl, rfl⟩ : v95 = _ ∧ v97 = _ := hr
  dsimp only
  iapply (wp_seq (F := F) c _)
  isplitl [HO Hacc B1 Hv1 Cs1 As1 Hs0 Cr1 Ar1]
  · iapply (part2_spec m K c t v2 v5 v7 v70 _ rfl _ rfl)
    isplitr; · iexact Hc
    isplitl [HO]; · iexact HO
    isplitl [Hacc]; · iexact Hacc
    isplitl [B1]; · iexact B1
    isplitl [Hv1]; · iexact Hv1
    isplitl [Cs1]; · iexact Cs1
    isplitl [As1]; · iexact As1
    isplitl [Hs0]; · iexact Hs0
    isplitl [Cr1] <;> iassumption
  iintro %r' ⟨HO, Hfl, As1, #Rs1', Hs0, Ar1, #Rr1, Hs1, #Rcp⟩
  obtain ⟨v123, w⟩ := r'
  dsimp only
  iapply (wp_seq (F := F) c _)
  isplitl [HO Tc Hs0 Cc Ac Hs1 Ts0 Tr0 Hfl Hb]
  · iapply (part3_spec m K c t v2 v7 _ _ _ _ rfl _)
    isplitr; · iexact Hc
    isplitl [HO]; · iexact HO
    isplitl [Tc]; · iexact Tc
    isplitl [Hs0]; · iapply (holds_some c slot0 _ _); iexact Hs0
    isplitr; · iexact Rr0
    isplitr; · iexact Rcp
    isplitl [Cc]; · iexact Cc
    isplitl [Ac]; · iexact Ac
    isplitl [Hs1]; · iexact Hs1
    isplitl [Ts0]; · iexact Ts0
    isplitr; · iexact Rs0
    isplitl [Tr0]; · iexact Tr0
    isplitl [Hfl] <;> iassumption
  iintro %_ ⟨HO, Ac, Hs1, Cs0, Hd1, Hv1, Hacc, Hb⟩
  simp only [semSignalWord, Prog.lift, Prog.bind_op, Prog.bind_ret, Prog.pure_eq_ret]
  unfold blank
  iapply (copy_out (c := c) false (org c (2 * t.val + 2)) _ (off3_even c t) (prod m c (org c (2 * t.val + 2)))) $$ [Hacc B2 Hv0]
  · isplitl [Hacc]; · iexact Hacc
    isplitl [B2] <;> iassumption
  iintro Hfl
  iapply (wait_send m K false (t.val + 1) (by simp only [Bool.toNat_false]; omega) (credit_slot true) (above_C c (n := 0) (by omega))) $$ [HO Cs0 As0]
  · isplitr; · iexact Hc
    isplitl [HO]; · iexact HO
    isplitl [Cs0] <;> iassumption
  iintro ⟨HO, As0, #Rs0', Hpay⟩
  iapply (wait_recv m K false (t.val + 1) (by simp only [Bool.toNat_false]; omega) (h := 2 * t.val + 1 + 1 + 1) (u := 2 * t.val + 1)
    (by simp only [Bool.toNat_false]; omega) (by simp only [Bool.toNat_false]; omega) (credit_slot false)
    (above_C c (j := t.val) (by simp only [Bool.toNat_false]; omega))) $$ [HO Cr0 Ar0]
  · isplitr; · iexact Hc
    isplitl [HO]; · iexact HO
    isplitl [Cr0] <;> iassumption
  iintro ⟨HO, Ar0, #Rr0', Hs0, Rcp'⟩
  iapply (back_step m K c t (by decide)) $$ [HO Hlate Hpay Hs1 Rcp' Ac]
  · isplitr; · iexact Hc
    isplitl [HO]; · iexact HO
    isplitl [Hlate]; · iexact Hlate
    isplitl [Hpay Hs1]
    · iapply (holds_some c slot1 fullShare _)
      iapply (holds_join c slot1 _)
      isplitl [Hpay]
      · iapply (Entails.of_eq (sendPay_false (F := F) c t.val)); iexact Hpay
      iexact Hs1
    isplitr; · iexact Rr1
    isplitl [Rcp'] <;> iassumption
  iintro ⟨HO, Hf⟩
  iapply (wp_done (F := F) c)
  isplitr; · iexact Hc
  isplitl [HO Hf Hs0 Hfl Hv1 Hb As0 As1 Ar0 Ar1]
  · isplitl [HO]; · iexact HO
    isplitl [Hf]; · iexact Hf
    isplitl [Hs0]; · iexact Hs0
    isplitl [Hfl]; · unfold flying done; iexact Hfl
    isplitl [Hv1]; · iexact Hv1
    isplitl [Hb]; · iexact Hb
    isplitl [As0]; · iexact As0
    isplitr; · iexact Rs0'
    isplitl [As1]; · iexact As1
    isplitr; · iexact Rs1'
    isplitl [Ar0]; · iexact Ar0
    isplitr; · iexact Rr0'
    iexact Ar1
  isplitl [Hd0 Hd1 Hdone]
  · isplitl [Hd1]; · iexact Hd1
    isplitl [Hd0] <;> iassumption
  iexact Hkits

end Cert.KernelIdeal.Ring

end
-- ==== Proof.KernelIdealRing.Body.lean ====
/-
# The kernel's program on one device

From what a device holds when its kernel starts (`begin'`) to what it holds at the end (`end'`): the handshake with both
neighbours, the first hop from the staged block, the fifteen trips of the loop, and the product of the block that came last.
Every row block of the result is then written, and every semaphore counter is in the device's hand at zero.
-/
module

public import proofs.«01_k».proof.Proof.KernelIdealRing.Trip

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Fin 6 → ℕ) (c : Dev nD)

/-! ## The two ends -/

/-- What a device pays and awaits before the loop: the handshake and hop `0`. -/
def opening : sProp 𝕄 :=
  iprop(dutyTok ER (barCell (prv c)) 0 true ∗ dutyTok ER (barCell (nxt c)) 0 false ∗ cred (tallyAt (barCell c) 0 2)
    ∗ dutyTok ER (sendCell false c) 0 false ∗ dutyTok ER (recvCell false (nxt c)) 0 false ∗ cred (tallyAt (recvCell false c) 0 N))

/-- A device's positions at its six cells, at the start -/
def positions₀ : sProp 𝕄 :=
  iprop(atPos ER (barCell c) 0 ∅ 0 ∗ atPos ER (crCell c) 0 ∅ 0 ∗ atPos ER (sendCell false c) 0 ∅ 0 ∗ atPos ER (sendCell true c) 0 ∅ 0
    ∗ atPos ER (recvCell false c) 0 ∅ 0 ∗ atPos ER (recvCell true c) 0 ∅ 0)
/-- and at the end. -/
def positions₁ : sProp 𝕄 :=
  iprop(atPos ER (barCell c) 1 ∅ 0 ∗ atPos ER (crCell c) 29 ∅ 0 ∗ atPos ER (sendCell false c) 16 ∅ 0 ∗ atPos ER (sendCell true c) 15 ∅ 0
    ∗ atPos ER (recvCell false c) 16 ∅ 0 ∗ atPos ER (recvCell true c) 15 ∅ 0)
/-- The six counters at zero. -/
def counters₀ : sProp 𝕄 :=
  iprop(semVal (barCell c) 0 ∗ semVal (crCell c) 0 ∗ semVal (sendCell false c) 0 ∗ semVal (sendCell true c) 0
    ∗ semVal (recvCell false c) 0 ∗ semVal (recvCell true c) 0)
/-- The kernel's scratch memory and its copy semaphores. -/
def scratch : sProp 𝕄 :=
  iprop(some' c slot0 fullShare ∗ some' c slot1 fullShare ∗ some' c accM fullShare ∗ semVal (copyCell false c) 0 ∗ semVal (copyCell true c) 0)

/-- A device at the start of its kernel, the levels and records aside; -/
def begin' : sProp 𝕄 :=
  iprop(owing c (O₀ c) ∗ holds c aM fullShare (xblk m c) ∗ holds c bM fullShare (yblk m c) ∗ scratch c ∗ positions₀ c ∗ opening c
    ∗ blank c 0 ∗ blank c 31 ∗ bigSep (Finset.Ico 0 15) fun i => kit c i)
/-- and at the end: every row block of the result is written. -/
def end' : sProp 𝕄 :=
  iprop(owing c 0 ∗ holds c aM fullShare (xblk m c) ∗ holds c bM fullShare (yblk m c) ∗ scratch c ∗ counters₀ c
    ∗ bigSep (Finset.range 32) fun h => done m c h)

/-- At the end every cell closes. -/
theorem close_cells : iprop(ctx m K ∗ positions₁ c) ⊢ (|={Set.univ}=> counters₀ c : sProp 𝕄) := by
  unfold positions₁ counters₀
  iintro ⟨#Hc, H0, H1, H2, H3, H4, H5⟩
  imod (Rounds.cell_close ER (ringRd m) (Set.mem_univ (K (c, 0))) (fun h => h) (g := barCell c) (R := 1) (duties_done m (by
    show rounds (kind (.reg barS)) ≤ 1; rw [kind_bar]; decide))) $$ [H0] with Z0
  · isplitr; · iapply (inv_bar m K c); iexact Hc
    iexact H0
  imod (Rounds.cell_close ER (ringRd m) (Set.mem_univ (K (c, 1))) (fun h => h) (g := crCell c) (R := 29) (duties_done m (by
    show rounds (kind (.reg crS)) ≤ 29; rw [kind_cr]; decide))) $$ [H1] with Z1
  · isplitr; · iapply (inv_cr m K c); iexact Hc
    iexact H1
  imod (Rounds.cell_close ER (ringRd m) (Set.mem_univ (K (c, 2))) (fun h => h) (g := sendCell false c) (R := 16) (duties_done m (by
    show rounds (kind (.dma (sendS false))) ≤ 16; rw [kind_send]; decide))) $$ [H2] with Z2
  · isplitr; · iapply (inv_send m K false c); iexact Hc
    iexact H2
  imod (Rounds.cell_close ER (ringRd m) (Set.mem_univ (K (c, 3))) (fun h => h) (g := sendCell true c) (R := 15) (duties_done m (by
    show rounds (kind (.dma (sendS true))) ≤ 15; rw [kind_send]; decide))) $$ [H3] with Z3
  · isplitr; · iapply (inv_send m K true c); iexact Hc
    iexact H3
  imod (Rounds.cell_close ER (ringRd m) (Set.mem_univ (K (c, 4))) (fun h => h) (g := recvCell false c) (R := 16) (duties_done m (by
    show rounds (kind (.dma (recvS false))) ≤ 16; rw [kind_recv]; decide))) $$ [H4] with Z4
  · isplitr; · iapply (inv_recv m K false c); iexact Hc
    iexact H4
  imod (Rounds.cell_close ER (ringRd m) (Set.mem_univ (K (c, 5))) (fun h => h) (g := recvCell true c) (R := 15) (duties_done m (by
    show rounds (kind (.dma (recvS true))) ≤ 15; rw [kind_recv]; decide))) $$ [H5] with Z5
  · isplitr; · iapply (inv_recv m K true c); iexact Hc
    iexact H5
  imodintro
  isplitl [Z0]; · iexact Z0
  isplitl [Z1]; · iexact Z1
  isplitl [Z2]; · iexact Z2
  isplitl [Z3]; · iexact Z3
  isplitl [Z4] <;> iassumption

/-! ## Before the loop -/

/-- The handshake, hop `0` sent from the staged block, and the device's own product formed. -/
theorem part4_spec (X : FVec F S2048x1024 .f32) (hX : X = xblk m c) (Y : FVec F S1024x2048 .f32) :
    iprop(ctx m K ∗ owing c (O₀ c) ∗ dutyTok ER (barCell (prv c)) 0 true ∗ some' c slot0 fullShare ∗ some' c slot1 fullShare
        ∗ dutyTok ER (barCell (nxt c)) 0 false ∗ cred (tallyAt (barCell c) 0 2) ∗ atPos ER (barCell c) 0 ∅ 0
        ∗ holds c aM fullShare X ∗ dutyTok ER (sendCell false c) 0 false ∗ dutyTok ER (recvCell false (nxt c)) 0 false ∗ holds c bM fullShare Y)
      ⊢ WP c (k0_part4 (F := F) aM (Memref.isWhole_whole _) bM (Memref.isWhole_whole _) oM (Memref.isWhole_whole _) commM (Memref.isWhole_whole _) accM (Memref.isWhole_whole _)
            cc0_scratch2 cc0_scratch3 cc0_scratch4 cc0_scratch5)
          (fun r => iprop(⌜r.1 = c ∧ r.2.2.2.2 = k0_pay6 X Y⌝ ∗ owing c (restO c 0) ∗ atPos ER (barCell c) 1 ∅ 0 ∗ some' (nxt c) slot1 fullShare
            ∗ holds c aM fullShare.right X ∗ cred (tallyAt (sendCell false c) 0 N) ∗ holds c bM fullShare Y)) := by
  unfold WP
  simp only [k0_part4_eq_skeleton]
  unfold k0_part4_skel
  simp only [semSignalWord, semWaitWord, Prog.lift, Prog.bind_op, Prog.bind_ret, Prog.pure_eq_ret, wp_deviceId]
  iintro ⟨#Hc, HO, Tp, S0, S1, Tn, Cb, Ab, Ha, Ts, Tr, Hb⟩
  unfold O₀
  iapply (signal_left m K _ (dev1_eq c) (by decide) (O₁ c)) $$ [HO Tp S0 S1]
  · isplitr; · iexact Hc
    isplitl [HO]; · iexact HO
    isplitl [Tp]; · iexact Tp
    isplitl [S0] <;> iassumption
  iintro HO
  unfold O₁
  iapply (signal_right m K _ (dev2_eq c) (by decide) (O₂ c)) $$ [HO Tn]
  · isplitr; · iexact Hc
    isplitl [HO] <;> iassumption
  iintro HO
  iapply (wait_bar m K (by decide) (above_O₂ c)) $$ [HO Cb Ab]
  · isplitr; · iexact Hc
    isplitl [HO]; · iexact HO
    isplitl [Cb] <;> iassumption
  iintro ⟨HO, Ab, N0, N1⟩
  unfold O₂
  iapply (send_hop m K false 0 (by decide) (u := 0) (by decide) aM (Entails.of_eq (sendPay_zero c).symm) _ (dev3_eq c)
    (restO c 0) X (by rw [hX]; congr 1; exact (org_zero c).symm)) $$ [HO Ha N0 Ts Tr]
  · isplitr; · iexact Hc
    isplitl [HO]; · iexact HO
    isplitl [Ha]; · iexact Ha
    isplitl [N0]; · iexact N0
    isplitl [Ts]; · iexact Ts
    isplitr; · iapply (reached_send m K false c); iexact Hc
    isplitl [Tr]; · iexact Tr
    isplitr; · iapply (reached_recv m K false (nxt c)); iexact Hc
    iapply (reached_cr m K c); iexact Hc
  iintro ⟨HO, Ha, Cs⟩
  iapply (load_a (c := c) fullShare.right X) $$ Ha
  iintro Ha
  iapply (load_b (c := c) fullShare Y) $$ Hb
  iintro Hb
  iapply (wp_done (F := F) c)
  isplitr
  · ipureintro; exact ⟨rfl, rfl⟩
  isplitl [HO]; · iexact HO
  isplitl [Ab]; · iexact Ab
  isplitl [N1]; · iexact N1
  isplitl [Ha]; · iexact Ha
  isplitl [Cs] <;> iassumption

/-! ## The loop and what surrounds it -/

/-- What a device holds between the loop's end and its last product. -/
def between : sProp 𝕄 :=
  iprop(owing c 0 ∗ some' c slot1 fullShare ∗ atPos ER (crCell c) 29 ∅ 0 ∗ holds c slot0 fullShare (xblk m (org c 31))
    ∗ some' c accM fullShare ∗ semVal (copyCell false c) 0 ∗ semVal (copyCell true c) 0 ∗ holds c bM fullShare (yblk m c)
    ∗ atPos ER (sendCell false c) 16 ∅ 0 ∗ atPos ER (sendCell true c) 15 ∅ 0
    ∗ atPos ER (recvCell false c) 16 ∅ 0 ∗ atPos ER (recvCell true c) 15 ∅ 0
    ∗ (bigSep (Finset.range 31) fun h => done m c h) ∗ holds c aM fullShare (xblk m c))

omit [FloatOps F] in
theorem front_end : (front c 15 : sProp 𝕄) = iprop(some' c slot1 fullShare ∗ atPos ER (crCell c) 29 ∅ 0) := by
  unfold front; rw [if_neg (by decide), if_neg (by decide)]

/-- The device's own product is copied out, hop `0` ends, and the loop runs. -/
theorem part5_spec (v2 v5 v7 : BitVec 32) (X : FVec F S2048x1024 .f32) (hX : X = xblk m c) (Y : FVec F S1024x2048 .f32) (hY : Y = yblk m c) :
    iprop(ctx m K ∗ owing c (restO c 0) ∗ some' c accM fullShare ∗ blank c 0 ∗ semVal (copyCell false c) 0 ∗ semVal (copyCell true c) 0
        ∗ cred (tallyAt (sendCell false c) 0 N) ∗ atPos ER (sendCell false c) 0 ∅ 0 ∗ holds c aM fullShare.right X
        ∗ cred (tallyAt (recvCell false c) 0 N) ∗ atPos ER (recvCell false c) 0 ∅ 0
        ∗ some' (nxt c) slot1 fullShare ∗ atPos ER (crCell c) 0 ∅ 0 ∗ holds c bM fullShare Y
        ∗ atPos ER (sendCell true c) 0 ∅ 0 ∗ atPos ER (recvCell true c) 0 ∅ 0 ∗ bigSep (Finset.Ico 0 15) fun i => kit c i)
      ⊢ WP c (k0_part5 (F := F) aM (Memref.isWhole_whole _) bM (Memref.isWhole_whole _) oM (Memref.isWhole_whole _) commM (Memref.isWhole_whole _) accM (Memref.isWhole_whole _)
            cc0_scratch2 cc0_scratch3 cc0_scratch4 cc0_scratch5 c v2 v5 v7 (k0_pay6 X Y)) (fun _ => between m c) := by
  simp only [k0_part5_eq_skeleton]
  unfold k0_part5_skel
  simp only [Prog.lift, Prog.bind_op, Prog.bind_ret, Prog.pure_eq_ret]
  iintro ⟨#Hc, HO, Hacc, B0, V0, V1, Cs, As0, Ha, Cr, Ar0, N1, Ac, Hb, As1, Ar1, Hkits⟩
  iapply (load_acc (c := c)) $$ Hacc
  iintro %v Hacc
  rw [pay_own]
  iapply (store_acc (c := c) (mm X Y)) $$ Hacc
  iintro Hacc
  unfold blank
  iapply (copy_out (c := c) false (org c 0) _ (off1_own c) (mm X Y)) $$ [Hacc B0 V0]
  · isplitl [Hacc]; · iexact Hacc
    isplitl [B0] <;> iassumption
  iintro Hfl
  iapply (wait_send m K false 0 (by decide) credit_a (above_rest c (j := 0) (n := 0) (by omega))) $$ [HO Cs As0]
  · isplitr; · iexact Hc
    isplitl [HO]; · iexact HO
    isplitl [Cs] <;> iassumption
  iintro ⟨HO, As0, #Rs0, Hpay⟩
  iapply (wait_recv m K false 0 (by decide) (h := 1) (u := 0) (by decide) (by decide) (credit_slot false)
    (above_rest c (j := 0) (by decide))) $$ [HO Cr Ar0]
  · isplitr; · iexact Hc
    isplitl [HO]; · iexact HO
    isplitl [Cr] <;> iassumption
  iintro ⟨HO, Ar0, #Rr0, S0, -⟩
  iapply (Scf.wp_for_bind frame (wpE (defs₀ (F := F)) 𝒱₀ (c : Thread nD τ) none) Set.univ _ _ _ _ _ _ (I := fun j _ => inv m K c j)
    (fun t a => trip_spec m K c v2 v5 v7 (k0_pay6 X Y) t a)) $$ [HO N1 Ac S0 Hfl V1 Hb As0 As1 Ar0 Ar1 Hkits]
  · unfold inv core
    isplitr; · iexact Hc
    isplitr [Hkits]
    · isplitl [HO]; · iexact HO
      isplitl [N1 Ac]
      · unfold front; rw [if_pos rfl]
        isplitl [N1] <;> iassumption
      isplitl [S0]; · iexact S0
      isplitl [Hfl]
      · unfold flying done prod; rw [hX, hY, show org c (2 * 0) = c from org_zero c]; iexact Hfl
      isplitl [V1]; · iexact V1
      isplitl [Hb]; · rw [hY]; iexact Hb
      isplitl [As0]; · iexact As0
      isplitr; · iexact Rs0
      isplitl [As1]; · iexact As1
      isplitr; · iapply (reached_send m K true c); iexact Hc
      isplitl [Ar0]; · iexact Ar0
      isplitr; · iexact Rr0
      iexact Ar1
    · isplitr
      · rw [Nat.mul_zero, Finset.range_zero, bigSep_empty]; iempintro
      · iexact Hkits
  iintro %acc Hinv
  rw [show Scf.trips k0_t1_loop.lb k0_t1_loop.ub k0_t1_loop.st = 15 from trips_eq]
  unfold inv core
  icases Hinv with ⟨-, ⟨HO, Hf, S0, Hfl, V1, Hb, As0, -, As1, -, Ar0, -, Ar1⟩, Hdone, -⟩
  unfold flying
  iapply (wait_copy m K false (NC_eq _ _ _) _ (above_rest c (j := 15) (n := 0) (by omega))) $$ [HO Hfl]
  · isplitr; · iexact Hc
    isplitl [HO] <;> iassumption
  iintro ⟨HO, ⟨Hd, Hacc⟩, V0⟩
  rw [restO_end]
  ihave Hf := (Entails.of_eq (front_end (F := F) c)) $$ Hf
  icases Hf with ⟨S1, Ac⟩
  iapply (wp_done (F := F) c)
  unfold between
  isplitl [HO]; · iexact HO
  isplitl [S1]; · iexact S1
  isplitl [Ac]; · iexact Ac
  isplitl [S0]; · iexact S0
  isplitl [Hacc]; · iexact Hacc
  isplitl [V0]; · iexact V0
  isplitl [V1]; · iexact V1
  isplitl [Hb]; · iexact Hb
  isplitl [As0]; · iexact As0
  isplitl [As1]; · iexact As1
  isplitl [Ar0]; · iexact Ar0
  isplitl [Ar1]; · iexact Ar1
  isplitl [Hd Hdone]
  · iapply (Entails.of_eq (range_step 30 (fun h => done m c h)).symm)
    isplitl [Hd] <;> iassumption
  subst hX
  iapply (holds_join c aM _)
  isplitl [Hpay]
  · iapply (Entails.of_eq (sendPay_zero (F := F) c)); iexact Hpay
  iexact Ha

/-! ## The whole program -/

/-- The kernel's program takes a device from its start to its end. -/
theorem body_spec :
    iprop(ctx m K ∗ begin' m c)
      ⊢ WP c (cc0_body (F := F) aM (Memref.isWhole_whole _) bM (Memref.isWhole_whole _) oM (Memref.isWhole_whole _) commM (Memref.isWhole_whole _) accM (Memref.isWhole_whole _)
            cc0_scratch2 cc0_scratch3 cc0_scratch4 cc0_scratch5) (fun _ => end' m c) := by
  simp only [cc0_body_eq_skeleton]
  unfold cc0_body_skel begin' scratch positions₀ opening
  iintro ⟨#Hc, HO, Ha, Hb, ⟨S0, S1, Hacc, V0, V1⟩, ⟨Ab, Ac, As0, As1, Ar0, Ar1⟩, ⟨Tp, Tn, Cb, Ts, Tr, Cr⟩, B0, B31, Hkits⟩
  iapply (wp_seq (F := F) c _)
  isplitl [HO Tp S0 S1 Tn Cb Ab Ha Ts Tr Hb]
  · iapply (part4_spec m K c _ rfl (yblk m c))
    isplitr; · iexact Hc
    isplitl [HO]; · iexact HO
    isplitl [Tp]; · iexact Tp
    isplitl [S0]; · iexact S0
    isplitl [S1]; · iexact S1
    isplitl [Tn]; · iexact Tn
    isplitl [Cb]; · iexact Cb
    isplitl [Ab]; · iexact Ab
    isplitl [Ha]; · iexact Ha
    isplitl [Ts]; · iexact Ts
    isplitl [Tr] <;> iassumption
  iintro %r ⟨%hr, HO, Ab, N1, Ha, Cs, Hb⟩
  obtain ⟨d, v2, v5, v7, v25⟩ := r
  obtain ⟨rfl, rfl⟩ : d = c ∧ v25 = _ := hr
  dsimp only
  iapply (wp_seq (F := F) d _)
  isplitr [Ab B31]
  · iapply (part5_spec m K d v2 v5 v7 _ rfl _ rfl)
    isplitr; · iexact Hc
    isplitl [HO]; · iexact HO
    isplitl [Hacc]; · iexact Hacc
    isplitl [B0]; · iexact B0
    isplitl [V0]; · iexact V0
    isplitl [V1]; · iexact V1
    isplitl [Cs]; · iexact Cs
    isplitl [As0]; · iexact As0
    isplitl [Ha]; · iexact Ha
    isplitl [Cr]; · iexact Cr
    isplitl [Ar0]; · iexact Ar0
    isplitl [N1]; · iexact N1
    isplitl [Ac]; · iexact Ac
    isplitl [Hb]; · iexact Hb
    isplitl [As1]; · iexact As1
    isplitl [Ar1] <;> iassumption
  iintro %u Hbt
  unfold between
  icases Hbt with ⟨HO, S1, Ac, S0, Hacc, V0, V1, Hb, As0, As1, Ar0, Ar1, Hdone, Ha⟩
  simp only [Prog.lift, Prog.bind_op, Prog.bind_ret, Prog.pure_eq_ret]
  iapply (load_slot0 (c := d) fullShare _) $$ S0
  iintro %v %hv S0
  iapply (load_b (c := d) fullShare _) $$ Hb
  iintro Hb
  iapply (load_acc (c := d)) $$ Hacc
  iintro %v' Hacc
  rw [pay_last hv]
  iapply (store_acc (c := d) (mm (xblk m (org d 31)) (yblk m d))) $$ Hacc
  iintro Hacc
  unfold blank
  iapply (copy_out (c := d) true (org d 31) _ (off1_last d) (mm (xblk m (org d 31)) (yblk m d))) $$ [Hacc B31 V1]
  · isplitl [Hacc]; · iexact Hacc
    isplitl [B31] <;> iassumption
  iintro Hfl
  iapply (wait_copy m K true (NC_eq _ _ _) _ (Above.zero 0)) $$ [HO Hfl]
  · isplitr; · iexact Hc
    isplitl [HO] <;> iassumption
  iintro ⟨HO, ⟨Hd, Hacc⟩, V1⟩
  imod (close_cells m K d) $$ [Ab Ac As0 As1 Ar0 Ar1] with Hz
  · unfold positions₁
    isplitr; · iexact Hc
    isplitl [Ab]; · iexact Ab
    isplitl [Ac]; · iexact Ac
    isplitl [As0]; · iexact As0
    isplitl [As1]; · iexact As1
    isplitl [Ar0] <;> iassumption
  iapply (wp_done (F := F) d)
  unfold end' scratch
  isplitl [HO]; · iexact HO
  isplitl [Ha]; · iexact Ha
  isplitl [Hb]; · iexact Hb
  isplitl [S0 S1 Hacc V0 V1]
  · isplitl [S0]; · iapply (holds_some d slot0 _ _); iexact S0
    isplitl [S1]; · iexact S1
    isplitl [Hacc]; · iexact Hacc
    isplitl [V0] <;> iassumption
  isplitl [Hz]; · iexact Hz
  iapply (Entails.of_eq (range_step 31 (fun h => done m d h)).symm)
  isplitl [Hd]; · unfold done prod; iexact Hd
  iexact Hdone

end Cert.KernelIdeal.Ring

end
-- ==== Proof.KernelIdealRing.Blocks.lean ====
/-
# The buffers in pieces

The result is held whole outside the kernel and row block by row block inside it, in the order of the hops; the two slots are
one scratch buffer. This module splits both and joins them again.
-/
module

public import proofs.«01_k».proof.Proof.KernelIdealRing.Body
public import Idealize.ShloMosaic.Lib.Ring

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (c : Dev nD)

/-! ## The hops of a device visit every device once -/

theorem org_org (h : Dev nD) : org c (org c h.val).val = h := by
  have hc := c.isLt; have hh := h.isLt; simp only [nD] at hc hh
  apply Fin.ext; simp only [org]; omega
/-- Hop number against the device whose block travels on it, as a bijection. -/
def hops : Dev nD ≃ Dev nD := ⟨fun h => org c h.val, fun d => org c d.val, fun h => org_org c h, fun d => org_org c d⟩

omit [FloatOps F] in
/-- A family over the devices, in the order of the hops. -/
theorem by_hops (Φ : Dev nD → sProp (MT nD τ sig ℕ (Elt F) ℕ UU ℕ)) :
    bigSep Finset.univ Φ = bigSep (Finset.range 32) fun h => Φ (org c h) := by
  rw [bigSep_univ_equiv (hops c) Φ]
  exact Ring.bigSep_fin_eq_range 32 _ _ fun t ht => rfl

/-! ## The result -/

theorem set_rows (d : Dev nD) :
    (rowsM d).view.set = (Rect.unit (s := S65536x2048) ![2048 * d.val, 0] S2048x2048.size (rowOff_inb d)).set :=
  View.set_slice_whole _ _

theorem rows_disjoint (d d' : Dev nD) (h : d ≠ d') : Disjoint (rowsM d).view.set (rowsM d').view.set := by
  rw [set_rows, set_rows]
  exact Ring.lead_disjoint (s := S65536x2048) (NB := 32) (0 : Fin 2) 2048 (fun d => ![2048 * d.val, 0]) S2048x2048.size rowOff_inb
    (fun _ => rfl) rfl d d' h

theorem rows_cover : (Finset.univ.biUnion fun d : Dev nD => (rowsM d).view.set) = (Finset.univ : Finset (Idx (oM.view.loc (c : Thread nD τ)))) := by
  rw [Finset.biUnion_congr rfl fun d _ => set_rows d]
  exact Ring.lead_cover (s := S65536x2048) (NB := 32) (0 : Fin 2) 2048 (fun d => ![2048 * d.val, 0]) S2048x2048.size rowOff_inb
    (fun _ => rfl) (fun b a ha => by revert ha; revert a; decide +revert) rfl (by decide) rfl

omit [FloatOps F] in
/-- The result, held whole, is held as thirty-two blank row blocks; -/
theorem rows_split (f : Buf (Elt F) (oM.view.loc (c : Thread nD τ))) :
    (oM.view.loc (c : Thread nD τ) ↦{fullShare} f) ⊢ (bigSep (Finset.range 32) fun h => blank (F := F) c h : sProp 𝕄) := by
  rw [Ring.pointsTo_blocks (ℓ := oM.view.loc (c : Thread nD τ)) (fun d : Dev nD => (rowsM d).view.set) rows_disjoint (rows_cover c) f]
  refine (bigSep_mono fun d _ => show _ ⊢ some' (F := F) c (rowsM d) fullShare from ?_).trans (Entails.of_eq (by_hops c _))
  unfold some'
  iintro H; iexists f; iexact H

/-- and the thirty-two finished row blocks are the result, held whole, reading each device's product in its rows. -/
theorem rows_join :
    (bigSep (Finset.range 32) fun h => done m c h)
      ⊢ (iprop(∃ g : Buf (Elt F) (oM.view.loc (c : Thread nD τ)), ⌜∀ d : Dev nD, (rowsM d).view.read (Elt F) g = prod m c d⌝
          ∗ (oM.view.loc (c : Thread nD τ) ↦{fullShare} g)) : sProp 𝕄) := by
  have : Nonempty (Buf (Elt F) (oM.view.loc (c : Thread nD τ))) := ⟨m _⟩
  unfold done holds
  refine (Entails.of_eq (by_hops c fun d => iprop(∃ g : Buf (Elt F) (oM.view.loc (c : Thread nD τ)),
    ⌜(rowsM d).view.read (Elt F) g = prod m c d⌝ ∗ (oM.view.loc (c : Thread nD τ) ↦[(rowsM d).view.set]{fullShare} g))).symm).trans ?_
  refine (BI.bigSep_exists_pi Finset.univ _).trans ?_
  iintro ⟨%fs, H⟩
  ihave H' := (BI.bigSep_pure_sep Finset.univ _ _) $$ H
  icases H' with ⟨%hr, H⟩
  ihave H' := (pointsTo_biUnion_join (ℓ := oM.view.loc (c : Thread nD τ)) Finset.univ (fun d : Dev nD => (rowsM d).view.set) fs (m _)
    (fun d _ d' _ h => rows_disjoint d d' h)) $$ H
  icases H' with ⟨%g, %hg, H⟩
  iexists g
  isplitr
  · ipureintro
    intro d
    exact (View.read_congr fun i hi => hg d (Finset.mem_univ d) i hi).trans (hr d (Finset.mem_univ d))
  · iapply (Entails.of_eq (by rw [rows_cover c])) $$ H

/-! ## The two slots -/

/-- The elements of the slot of a hop parity. -/
def slotSet : Bool → Finset (Idx (commM.view.loc (c : Thread nD τ)))
  | false => slot0.view.set
  | true => slot1.view.set

theorem slots_disjoint (p q : Bool) (h : p ≠ q) : Disjoint (slotSet c p) (slotSet c q) := by
  have key : Disjoint slot0.view.set slot1.view.set := by
    rw [set_slot0, set_slot1, View.set_slice_whole, View.set_slice_whole, Finset.disjoint_left]
    intro i hi hi'
    have h1 := Rect.mem_set_unit.mp hi 0
    have h2 := Rect.mem_set_unit.mp hi' 0
    simp at h1 h2
    omega
  cases p <;> cases q
  · exact absurd rfl h
  · exact key
  · exact key.symm
  · exact absurd rfl h

theorem slots_cover : Finset.univ.biUnion (slotSet c) = Finset.univ := by
  ext i
  simp only [Finset.mem_biUnion, Finset.mem_univ, true_and, iff_true]
  have h0 : (i 0).val < 2 := (i 0).isLt
  have h1 : (i 1).val < 2048 := (i 1).isLt
  have h2 : (i 2).val < 1024 := (i 2).isLt
  by_cases hi : (i 0).val = 0
  · refine ⟨false, ?_⟩
    show i ∈ slot0.view.set
    rw [set_slot0, View.set_slice_whole, Rect.mem_set_unit]
    intro a; fin_cases a
    · exact ⟨show 0 ≤ (i 0).val by omega, show (i 0).val < 0 + 1 by omega⟩
    · exact ⟨Nat.zero_le _, show (i 1).val < 0 + 2048 by omega⟩
    · exact ⟨Nat.zero_le _, show (i 2).val < 0 + 1024 by omega⟩
  · refine ⟨true, ?_⟩
    show i ∈ slot1.view.set
    rw [set_slot1, View.set_slice_whole, Rect.mem_set_unit]
    intro a; fin_cases a
    · exact ⟨show 1 ≤ (i 0).val by omega, show (i 0).val < 1 + 1 by omega⟩
    · exact ⟨Nat.zero_le _, show (i 1).val < 0 + 2048 by omega⟩
    · exact ⟨Nat.zero_le _, show (i 2).val < 0 + 1024 by omega⟩

omit [FloatOps F] in
theorem slots_eq (Φ : Bool → sProp (MT nD τ sig ℕ (Elt F) ℕ UU ℕ)) : bigSep Finset.univ Φ = iprop(Φ false ∗ Φ true) :=
  bigSep_univ_eq_bigSepL [false, true] (by decide) (by decide) Φ

omit [FloatOps F] in
/-- The scratch buffer, held whole, is the two slots; -/
theorem slots_split (f : Buf (Elt F) (commM.view.loc (c : Thread nD τ))) :
    (commM.view.loc (c : Thread nD τ) ↦{fullShare} f) ⊢ (iprop(some' (F := F) c slot0 fullShare ∗ some' (F := F) c slot1 fullShare) : sProp 𝕄) := by
  rw [Ring.pointsTo_blocks (ℓ := commM.view.loc (c : Thread nD τ)) (slotSet c) (slots_disjoint c) (slots_cover c) f, slots_eq]
  unfold some'
  iintro ⟨H0, H1⟩
  isplitl [H0]
  · iexists f; iexact H0
  · iexists f; iexact H1

/-- and the two slots are the scratch buffer. -/
theorem slots_join :
    (iprop(some' (F := F) c slot0 fullShare ∗ some' (F := F) c slot1 fullShare) : sProp 𝕄)
      ⊢ iprop(∃ f : Buf (Elt F) (commM.view.loc (c : Thread nD τ)), (commM.view.loc (c : Thread nD τ) ↦{fullShare} f)) := by
  unfold some'
  iintro ⟨⟨%f, H0⟩, %g, H1⟩
  iapply (Ring.pointsTo_blocks_join_exists (ℓ := commM.view.loc (c : Thread nD τ)) (slotSet c) (slots_disjoint c) (slots_cover c) f)
  iapply (Entails.of_eq (slots_eq _).symm)
  isplitl [H0]
  · iexists f; iexact H0
  · iexists g; iexact H1

/-! ## Whole buffers -/

omit [FloatOps F] in
/-- The product's buffer, held whole, and back. -/
theorem acc_split (f : Buf (Elt F) (accM.view.loc (c : Thread nD τ))) :
    (accM.view.loc (c : Thread nD τ) ↦{fullShare} f) ⊢ (some' (F := F) c accM fullShare : sProp 𝕄) := by
  unfold some'
  iintro H; iexists f
  iapply (Entails.of_eq (congrArg (fun I => (accM.view.loc (c : Thread nD τ) ↦[I]{fullShare} f : sProp 𝕄)) (View.set_whole cc0_scratch1).symm)) $$ H

omit [FloatOps F] in
theorem acc_join :
    (some' (F := F) c accM fullShare : sProp 𝕄)
      ⊢ iprop(∃ f : Buf (Elt F) (accM.view.loc (c : Thread nD τ)), (accM.view.loc (c : Thread nD τ) ↦{fullShare} f)) := by
  unfold some'
  iintro ⟨%f, H⟩; iexists f
  iapply (Entails.of_eq (congrArg (fun I => (accM.view.loc (c : Thread nD τ) ↦[I]{fullShare} f : sProp 𝕄)) (View.set_whole cc0_scratch1))) $$ H

end Cert.KernelIdeal.Ring

end
-- ==== Proof.KernelIdealRing.Deal.lean ====
/-
# Dealing out the ring

At launch every device's cells are at round zero, with a token for each duty of each round, and every unit that a device
owes has its credit at the cell that will receive it. This module deals the tokens to the devices that pay the duties, reads
the credits off what is owed, and sorts both, with the blank row blocks, into what a device starts its kernel with.
-/
module

public import proofs.«01_k».proof.Proof.KernelIdealRing.Blocks
public import Idealize.SL.BI.BigOpNat

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Runs of numbers -/

section Runs

variable (Φ : ℕ → sProp (MT nD τ sig ℕ (Elt F) ℕ UU ℕ))

omit [FloatOps F] in
/-- A run with its first number set apart. -/
theorem run_head (n : ℕ) : bigSep (Finset.range (n + 1)) Φ = iprop(Φ 0 ∗ bigSep (Finset.range n) fun j => Φ (j + 1)) := by
  rw [Finset.range_add_one', bigSep_insert (by simp), bigSep_map]
  rfl

omit [FloatOps F] in
/-- The first `k` of a run. -/
theorem run_take {k n : ℕ} (h : k ≤ n) : bigSep (Finset.range n) Φ ⊢ bigSep (Finset.range k) Φ :=
  bigSep_subset (Finset.range_subset_range.mpr h)

omit [FloatOps F] in
/-- Its first number alone. -/
theorem run_first : bigSep (Finset.range 32) Φ ⊢ Φ 0 := bigSep_elim (Finset.mem_range.mpr (by omega))

omit [FloatOps F] in
/-- The first number, and the fifteen after it; -/
theorem run_one : bigSep (Finset.range 32) Φ ⊢ iprop(Φ 0 ∗ bigSep (Finset.range 15) fun j => Φ (j + 1)) :=
  (run_take Φ (k := 16) (by omega)).trans (Entails.of_eq (run_head Φ 15))

omit [FloatOps F] in
/-- fifteen pairs; -/
theorem run_pairs : bigSep (Finset.range 32) Φ ⊢ iprop((bigSep (Finset.range 15) fun j => Φ (2 * j)) ∗ bigSep (Finset.range 15) fun j => Φ (2 * j + 1)) :=
  (run_take Φ (k := 2 * 15) (by omega)).trans (Entails.of_eq (Ring.bigSep_range_deinterleave 15 Φ))

omit [FloatOps F] in
/-- the first, the last, and the fifteen pairs between. -/
theorem run_ends : bigSep (Finset.range 32) Φ
    ⊢ iprop(Φ 0 ∗ Φ 31 ∗ (bigSep (Finset.range 15) fun j => Φ (2 * j + 1)) ∗ bigSep (Finset.range 15) fun j => Φ (2 * j + 2)) := by
  rw [Idealize.SL.BI.bigSep_range_succ 31, run_head Φ 30, show 30 = 2 * 15 from rfl, Ring.bigSep_range_deinterleave 15]
  iintro ⟨Hl, Hf, H1, H2⟩
  isplitl [Hf]; · iexact Hf
  isplitl [Hl]; · iexact Hl
  isplitl [H1]; · iexact H1
  iexact H2

end Runs

/-! ## The tokens -/

omit [FloatOps F] in
theorem six (Φ : Fin 6 → sProp (MT nD τ sig ℕ (Elt F) ℕ UU ℕ)) :
    bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The tokens of duty `false` at a device's cell of a kind, round by round. -/
def line (k : Fin 6) (c : Dev nD) : sProp 𝕄 := bigSep (Finset.range 32) fun r => dutyTok ER (kcell (c, k)) r false

/-- The tokens of a device's own cells; -/
def own (c : Dev nD) : sProp 𝕄 :=
  iprop(dutyTok ER (barCell c) 0 false ∗ dutyTok ER (barCell c) 0 true ∗ line 1 c ∗ line 2 c ∗ line 3 c ∗ line 4 c ∗ line 5 c)
/-- the tokens of the duties that a device pays. -/
def pays (c : Dev nD) : sProp 𝕄 :=
  iprop(dutyTok ER (barCell (nxt c)) 0 false ∗ dutyTok ER (barCell (prv c)) 0 true ∗ line 1 (prv c) ∗ line 2 c ∗ line 3 c
    ∗ line 4 (nxt c) ∗ line 5 (nxt c))

omit [FloatOps F] in
/-- Each device's tokens go to the neighbours that pay the duties. -/
theorem around : (bigSep Finset.univ fun c : Dev nD => (own c : sProp 𝕄)) ⊢ bigSep Finset.univ fun c : Dev nD => pays c := by
  unfold own pays
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring.symm (fun c : Dev nD => (line 1 c : sProp 𝕄)),
    bigSep_univ_equiv ring (fun c : Dev nD => (line 4 c : sProp 𝕄)),
    bigSep_univ_equiv ring (fun c : Dev nD => (line 5 c : sProp 𝕄))]
  exact BI.Entails.refl _

/-! ## The credits -/

open Idealize.ShloMosaic.Pipeline (launchCred launchCred_add launchCred_sum launchCred_zero launchCred_tallyAt)

/-- The credits that trip `j` uses at a device's own cells. -/
def tripCr (c : Dev nD) (j : ℕ) : sProp 𝕄 :=
  iprop((if j < 14 then cred (tallyAt (crCell c) (2 * j + 1) 1) else iprop(emp)) ∗ cred (tallyAt (recvCell false c) (j + 1) N)
    ∗ cred (tallyAt (crCell c) (2 * j) 1) ∗ cred (tallyAt (recvCell true c) j N))

omit [FloatOps F] in
theorem cred_hop (p : Bool) (r : ℕ) (c : Dev nD) : (launchCred (fun d => hopO d p r) c : sProp 𝕄) ⊢ cred (tallyAt (recvCell p c) r N) :=
  launchCred_tallyAt (.dma (recvS p)) nxt prv nxt_prv prv_nxt r N c
omit [FloatOps F] in
theorem cred_cr (k : ℕ) (c : Dev nD) : (launchCred (fun d => crO d k) c : sProp 𝕄) ⊢ cred (tallyAt (crCell c) k 1) :=
  launchCred_tallyAt (.reg crS) prv nxt prv_nxt nxt_prv k 1 c
omit [FloatOps F] in
theorem cred_cr' (j : ℕ) (c : Dev nD) :
    (launchCred (fun d => crO' d j) c : sProp 𝕄) ⊢ if j < 14 then cred (tallyAt (crCell c) (2 * j + 1) 1) else iprop(emp) := by
  unfold crO'
  by_cases h : j < 14
  · simp only [if_pos h]; exact cred_cr _ c
  · simp only [if_neg h]; rw [launchCred_zero]

omit [FloatOps F] in
theorem cred_trip (j : ℕ) (c : Dev nD) : (launchCred (fun d => tripO d j) c : sProp 𝕄) ⊢ tripCr c j := by
  unfold tripO tripCr
  rw [launchCred_add (fun d => crO' d j + hopO d false (j + 1) + crO d (2 * j)) (fun d => hopO d true j),
    launchCred_add (fun d => crO' d j + hopO d false (j + 1)) (fun d => crO d (2 * j)),
    launchCred_add (fun d => crO' d j) (fun d => hopO d false (j + 1))]
  iintro ⟨⟨⟨H1, H2⟩, H3⟩, H4⟩
  isplitl [H1]; · iapply (cred_cr' j c); iexact H1
  isplitl [H2]; · iapply (cred_hop false (j + 1) c); iexact H2
  isplitl [H3]; · iapply (cred_cr (2 * j) c); iexact H3
  iapply (cred_hop true j c); iexact H4

omit [FloatOps F] in
theorem cred_trips (c : Dev nD) :
    (bigSep (Finset.range 15) fun j => launchCred (fun d => tripO d j) c : sProp 𝕄) ⊢ bigSep (Finset.range 15) fun j => tripCr c j :=
  bigSep_mono fun j _ => cred_trip j c

omit [FloatOps F] in
/-- The credits a device receives at launch. -/
theorem credits (c : Dev nD) :
    (launchCred O₀ c : sProp 𝕄)
      ⊢ iprop(cred (tallyAt (barCell c) 0 2) ∗ cred (tallyAt (recvCell false c) 0 N) ∗ bigSep (Finset.range 15) fun j => tripCr c j) := by
  have e : (launchCred O₀ c : sProp 𝕄) = iprop((((bigSep (Finset.Ico 0 15) fun j => launchCred (fun d => tripO d j) c)
      ∗ launchCred (fun d => hopO d false 0) c) ∗ launchCred (fun d => tallyAt (barCell (nxt d)) 0 1) c)
      ∗ launchCred (fun d => tallyAt (barCell (prv d)) 0 1) c) := by
    rw [← launchCred_sum (Finset.Ico 0 15) (fun j d => tripO d j), ← launchCred_add, ← launchCred_add, ← launchCred_add]
    rfl
  have e2 : (tallyAt (barCell c) 0 2 : CellTallies nD τ sig ℕ) = tallyAt (barCell c) 0 1 + tallyAt (barCell c) 0 1 :=
    (tallyAt_add (barCell c) 0 1 1).symm
  rw [e, Nat.Ico_zero_eq_range, e2]
  iintro ⟨⟨⟨Ht, Hr⟩, H1⟩, H2⟩
  isplitl [H1 H2]
  · iapply (cred_add _ _).2
    isplitl [H1]
    · iapply (launchCred_tallyAt (.reg barS) nxt prv nxt_prv prv_nxt 0 1 c); iexact H1
    · iapply (launchCred_tallyAt (.reg barS) prv nxt prv_nxt nxt_prv 0 1 c); iexact H2
  isplitl [Hr]; · iapply (cred_hop false 0 c); iexact Hr
  iapply (cred_trips c); iexact Ht

/-! ## The kits -/

/-- What trip `j` uses, as dealt. -/
def share (c : Dev nD) (j : ℕ) : sProp 𝕄 :=
  iprop(dutyTok ER (sendCell true c) j false ∗ dutyTok ER (recvCell true (nxt c)) j false ∗ blank c (2 * j + 1)
    ∗ dutyTok ER (crCell (prv c)) (2 * j) false ∗ dutyTok ER (sendCell false c) (j + 1) false
    ∗ dutyTok ER (recvCell false (nxt c)) (j + 1) false ∗ blank c (2 * j + 2) ∗ dutyTok ER (crCell (prv c)) (2 * j + 1) false
    ∗ tripCr c j)

/-- It is the trip's kit. -/
theorem kit_of (c : Dev nD) (j : ℕ) : (share c j : sProp 𝕄) ⊢ kit c j := by
  unfold share kit late tripCr
  iintro ⟨T1, T2, B1, T3, T4, T5, B2, T6, C1, C2, C3, C4⟩
  isplitl [T1]; · iexact T1
  isplitl [T2]; · iexact T2
  isplitl [C4]; · iexact C4
  isplitl [B1]; · iexact B1
  isplitl [T3]; · iexact T3
  isplitl [C3]; · iexact C3
  isplitl [T4]; · iexact T4
  isplitl [T5]; · iexact T5
  isplitl [C2]; · iexact C2
  isplitl [B2]; · iexact B2
  by_cases h : j < 14
  · simp only [if_pos h]
    isplitl [T6]; · iexact T6
    iexact C1
  · simp only [if_neg h]
    iempintro

/-- The tokens, the credits and the blank row blocks, sorted by trip. -/
theorem sorted (c : Dev nD) :
    iprop(pays c ∗ (cred (tallyAt (barCell c) 0 2) ∗ cred (tallyAt (recvCell false c) 0 N) ∗ bigSep (Finset.range 15) fun j => tripCr c j)
        ∗ bigSep (Finset.range 32) fun h => blank c h)
      ⊢ (iprop(opening c ∗ blank c 0 ∗ blank c 31 ∗ bigSep (Finset.Ico 0 15) fun i => kit c i) : sProp 𝕄) := by
  have hk : (bigSep (Finset.range 15) fun j => share c j : sProp 𝕄) ⊢ bigSep (Finset.range 15) fun i => kit c i :=
    bigSep_mono fun j _ => kit_of c j
  unfold share at hk
  rw [Nat.Ico_zero_eq_range]
  simp only [bigSep_sep'] at hk
  unfold pays opening line
  iintro ⟨⟨Tn, Tp, L1, L2, L3, L4, L5⟩, ⟨C0, Cr, Ct⟩, Hb⟩
  ihave L1 := (run_pairs (F := F) _) $$ L1
  icases L1 with ⟨L1, L1'⟩
  ihave L2 := (run_one (F := F) _) $$ L2
  icases L2 with ⟨S0, L2⟩
  ihave L3 := (run_take (F := F) _ (k := 15) (n := 32) (by omega)) $$ L3
  ihave L4 := (run_one (F := F) _) $$ L4
  icases L4 with ⟨R0, L4⟩
  ihave L5 := (run_take (F := F) _ (k := 15) (n := 32) (by omega)) $$ L5
  ihave Hb := (run_ends (F := F) _) $$ Hb
  icases Hb with ⟨B0, B31, H1, H2⟩
  isplitl [Tn Tp C0 Cr S0 R0]
  · isplitl [Tp]; · iexact Tp
    isplitl [Tn]; · iexact Tn
    isplitl [C0]; · iexact C0
    isplitl [S0]; · iexact S0
    isplitl [R0]; · iexact R0
    iexact Cr
  isplitl [B0]; · iexact B0
  isplitl [B31]; · iexact B31
  iapply hk
  isplitl [L3]; · iexact L3
  isplitl [L5]; · iexact L5
  isplitl [H1]; · iexact H1
  isplitl [L1]; · iexact L1
  isplitl [L2]; · iexact L2
  isplitl [L4]; · iexact L4
  isplitl [H2]; · iexact H2
  isplitl [L1']; · iexact L1'
  iexact Ct

end Cert.KernelIdeal.Ring

end
-- ==== Proof.KernelIdealRing.Launch.lean ====
/-
# The run

The launch of the thirty-two kernels: what each starts from and ends with, the cells' invariants allocated for all devices
at once, and the run of the whole program from any memory with zero counters: it ends with every array `A`, `B` unchanged,
every row block of every result at the product of that block of `A` with `B`, and every semaphore at zero.
-/
module

public import proofs.«01_k».proof.Proof.KernelIdealRing.Deal
public import Idealize.ShloMosaic.Lib.Pipeline.CollectiveSegs
public import Idealize.ShloMosaic.Lib.Quiescent

@[expose] public section

set_option maxRecDepth 16384

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## What a device starts from and ends with -/

/-- The counters of the two copy semaphores, at zero. -/
def copies (c : Dev nD) : sProp 𝕄 := iprop(semVal (copyCell false c) 0 ∗ semVal (copyCell true c) 0)

/-- What a device holds when its kernel starts, its scratch memory and staged blocks aside. -/
def start (c : Dev nD) : sProp 𝕄 :=
  iprop((∃ K, ctx m K) ∗ positions₀ c ∗ copies c ∗ (opening c ∗ blank c 0 ∗ blank c 31 ∗ bigSep (Finset.Ico 0 15) fun i => kit c i))
/-- What a device holds before its one grid point, its staged blocks aside; -/
def Φ₀ (c : Dev nD) : sProp 𝕄 :=
  iprop(start m c ∗ some' c slot0 fullShare ∗ some' c slot1 fullShare ∗ some' c accM fullShare)
/-- and after it. -/
def Φ₁ (c : Dev nD) : sProp 𝕄 := iprop(scratch c ∗ counters₀ c ∗ bigSep (Finset.range 32) fun h => done m c h)

/-- The pipeline's data: two inputs fetched once, the ring's resources around the one point. -/
def dats (_ : Fin 1) (c : Dev nD) : Dat τ (Elt F) ℕ ℕ UU ℕ cfg0 c where
  A w := m ((cfg0.win w).arr.view.loc (c : Thread nD τ))
  after w _ := match w with
    | ⟨0, _⟩ => xblk m c
    | ⟨1, _⟩ => yblk m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem fetch_a (t : Fin cfg0.N) : (cfg0.win (0 : Fin 2)).fetch t = true := by rw [fin_N0 t]; rfl
theorem fetch_b (t : Fin cfg0.N) : (cfg0.win (1 : Fin 2)).fetch t = true := by rw [fin_N0 t]; rfl

/-- Before the point the staging buffers hold the device's blocks. -/
theorem before_a (c : Dev nD) (d) : (dats m 0 c).before (0 : Fin 2) t0_0 d = xblk m c := by
  unfold Dat.before; rw [if_pos (fetch_a t0_0)]; rfl
theorem before_b (c : Dev nD) (d) : (dats m 0 c).before (1 : Fin 2) t0_0 d = yblk m c := by
  unfold Dat.before; rw [if_pos (fetch_b t0_0)]; rfl

omit [FloatOps F] in
theorem owns_a (c : Dev nD) (X : FVec F S2048x1024 .f32) :
    (owns (Ix := ℕ) (Name := ℕ) (U := UU) (Lvl := ℕ) (c : Thread nD τ) aM fullShare X : sProp 𝕄) = holds c aM fullShare X := rfl
omit [FloatOps F] in
theorem owns_b (c : Dev nD) (X : FVec F S1024x2048 .f32) :
    (owns (Ix := ℕ) (Name := ℕ) (U := UU) (Lvl := ℕ) (c : Thread nD τ) bM fullShare X : sProp 𝕄) = holds c bM fullShare X := rfl

def bodyPre (c : Dev nD) : sProp 𝕄 :=
  iprop(Φ₀ m c ∗ (dats m 0 c).owesAt 0 (Fin.castSucc (t0_0 : Fin cfg0.N))
    ∗ (∃ d, holds c aM fullShare ((dats m 0 c).before (0 : Fin 2) t0_0 d))
    ∗ (∃ d, holds c bM fullShare ((dats m 0 c).before (1 : Fin 2) t0_0 d)))
def bodyPost (c : Dev nD) : sProp 𝕄 :=
  iprop(Φ₁ m c ∗ (dats m 0 c).owesAt 0 (Fin.succ (t0_0 : Fin cfg0.N)) ∗ holds c aM fullShare (xblk m c) ∗ holds c bM fullShare (yblk m c))

theorem into_begin (c : Dev nD) : bodyPre m c ⊢ (iprop(∃ K, ctx m K ∗ begin' m c) : sProp 𝕄) := by
  unfold bodyPre Φ₀ start begin' scratch copies Dat.owesAt Pipeline.owesWithin
  rw [show (dats m 0 c).owed (Fin.castSucc (t0_0 : Fin cfg0.N)) = O₀ c from rfl]
  iintro ⟨⟨⟨⟨%K, Hc⟩, Hp, ⟨V0, V1⟩, Ho, B0, B31, Hk⟩, S0, S1, Ha⟩, ⟨%W, %hW, HO⟩, ⟨%d, HA⟩, ⟨%d', HB⟩⟩
  iexists K
  isplitl [Hc]; · iexact Hc
  isplitl [HO]; · unfold owing; iexists W; iexact HO
  isplitl [HA]; · iapply (Entails.of_eq (congrArg (holds c aM fullShare) (before_a m c d))); iexact HA
  isplitl [HB]; · iapply (Entails.of_eq (congrArg (holds c bM fullShare) (before_b m c d'))); iexact HB
  isplitl [S0 S1 Ha V0 V1]
  · isplitl [S0]; · iexact S0
    isplitl [S1]; · iexact S1
    isplitl [Ha]; · iexact Ha
    isplitl [V0]; · iexact V0
    iexact V1
  isplitl [Hp]; · iexact Hp
  isplitl [Ho]; · iexact Ho
  isplitl [B0]; · iexact B0
  isplitl [B31]; · iexact B31
  iexact Hk

theorem out_of_end (c : Dev nD) : end' m c ⊢ (bodyPost m c : sProp 𝕄) := by
  unfold end' bodyPost Φ₁ owing Dat.owesAt Pipeline.owesWithin
  rw [show (dats m 0 c).owed (Fin.succ (t0_0 : Fin cfg0.N)) = 0 from rfl]
  iintro ⟨⟨%W, HO⟩, HA, HB, Hs, Hz, Hd⟩
  isplitl [Hs Hz Hd]
  · isplitl [Hs]; · iexact Hs
    isplitl [Hz]; · iexact Hz
    iexact Hd
  isplitl [HO]
  · iexists W
    isplitr; · ipureintro; exact fun _ _ => Or.inl trivial
    iexact HO
  isplitl [HA]; · iexact HA
  iexact HB

/-- The kernel's obligation on each device. -/
theorem body_obligation (c : Dev nD) : BodyObligation (dats (F := F) m 0 c) (defs₀ (F := F)) 𝒱₀ 0 Set.univ := fun t => by
  rw [fin_N0 t]
  rw [bigSep_W0, bigSep_W0]
  show bodyPre m c ⊢ WP c (cc0_body (F := F) aM (Memref.isWhole_whole _) bM (Memref.isWhole_whole _) oM (Memref.isWhole_whole _) commM (Memref.isWhole_whole _) accM (Memref.isWhole_whole _)
            cc0_scratch2 cc0_scratch3 cc0_scratch4 cc0_scratch5) (fun _ => bodyPost m c)
  have h (K : Dev nD × Fin 6 → ℕ) : iprop(ctx m K ∗ begin' m c) ⊢ WP c (cc0_body (F := F) aM (Memref.isWhole_whole _) bM (Memref.isWhole_whole _) oM (Memref.isWhole_whole _) commM (Memref.isWhole_whole _) accM (Memref.isWhole_whole _)
            cc0_scratch2 cc0_scratch3 cc0_scratch4 cc0_scratch5) (fun _ => bodyPost m c) :=
    (body_spec m K c).trans (wp_mono _ _ _ fun _ => out_of_end m c)
  refine (into_begin m c).trans ?_
  iintro ⟨%K, H⟩
  iapply (h K)
  iexact H

/-! ## The launch's ghost state -/

/-- The kernel's own semaphores: send, receive, copy, credit. -/
def osem : Fin 7 → SemLoc sig
  | 0 => .dma (sendS false) | 1 => .dma (sendS true) | 2 => .dma (recvS false) | 3 => .dma (recvS true)
  | 4 => .dma (copyS false) | 5 => .dma (copyS true) | 6 => .reg crS
theorem ownSemFacts : Pipeline.OwnSemFacts cfg0.spec osem := by decide

theorem share_eq (c : Dev nD) (w : Fin cfg0.W) : (dats m 0 c).share w = fullShare := by unfold Dat.share; split <;> rfl

theorem csem_injective : Function.Injective (csem : Fin 6 → SemLoc sig) := by
  intro a b h; revert h; revert a b; decide
theorem kcell_injective : Function.Injective (kcell : Dev nD × Fin 6 → GSem nD τ sig) := fun a b h =>
  Prod.ext (congrArg (fun g : GSem nD τ sig => g.1.1) h) (csem_injective (congrArg Prod.snd h))
def ringCells : Finset (GSem nD τ sig) := Finset.univ.map ⟨kcell, kcell_injective⟩

/-- The token of a device's cell of a kind, at a round, of a duty. -/
def tokOf (x : Dev nD × Fin 6 × Fin 32 × Bool) : GSem nD τ sig × ℕ × Bool := (kcell (x.1, x.2.1), x.2.2.1.val, x.2.2.2)
theorem tokOf_injective : Function.Injective tokOf := fun x y h => by
  obtain ⟨c, k, r, b⟩ := x
  obtain ⟨c', k', r', b'⟩ := y
  have h1 : (c, k) = (c', k') := kcell_injective (congrArg Prod.fst h)
  have h2 : r.val = r'.val := congrArg (fun z : GSem nD τ sig × ℕ × Bool => z.2.1) h
  have h3 : b = b' := congrArg (fun z : GSem nD τ sig × ℕ × Bool => z.2.2) h
  obtain ⟨h4, h5⟩ := Prod.mk.inj h1
  rw [h4, h5, Fin.ext h2, h3]
def ringToks : Finset (GSem nD τ sig × ℕ × Bool) := Finset.univ.map ⟨tokOf, tokOf_injective⟩

/-- The launch's element: the pipeline's, the ring's, and none of the counters'. -/
def u₀ : UU :=
  (initOf (Pipeline.cells cfgs cellOf_inj) (Pipeline.launchToks cfgs cellOf_inj), (initOf ringCells ringToks, 1))

/-- What the launch's element deals a device: its cells at round zero, its positions, its tokens. -/
def G (c : Dev nD) : sProp 𝕄 :=
  iprop((bigSep Finset.univ fun k : Fin 6 => roundState ER (ringRd m) (kcell (c, k)) 0)
    ∗ (bigSep Finset.univ fun k : Fin 6 => iprop(atPos ER (kcell (c, k)) 0 ∅ 0 ∗ reached ER (kcell (c, k)) 0)) ∗ own c)
/-- What the devices make of it together: the records of all cells, and each device's positions, tokens and copy counters. -/
def G' (c : Dev nD) : sProp 𝕄 := iprop((∃ K, records m K) ∗ positions₀ c ∗ copies c ∗ pays c)

omit [FloatOps F] in
theorem toks_line (c : Dev nD) (k : Fin 6) :
    (bigSep Finset.univ fun x : Fin 32 × Bool => (dutyTok ER (kcell (c, k)) x.1.val x.2 : sProp 𝕄))
      = iprop(line k c ∗ bigSep (Finset.range 32) fun r => dutyTok ER (kcell (c, k)) r true) := by
  unfold line
  rw [bigSep_univ_prod (fun x : Fin 32 × Bool => (dutyTok ER (kcell (c, k)) x.1.val x.2 : sProp 𝕄)), ← bigSep_sep']
  refine (bigSep_congr fun r _ => bigSep_univ_eq_bigSepL [false, true] (by decide) (by decide) _).trans ?_
  exact Ring.bigSep_fin_eq_range 32 _ _ fun t ht => rfl

omit [FloatOps F] in
theorem toks_own (c : Dev nD) :
    (bigSep Finset.univ fun x : Fin 6 × Fin 32 × Bool => (dutyTok ER (kcell (c, x.1)) x.2.1.val x.2.2 : sProp 𝕄)) ⊢ own c := by
  rw [bigSep_univ_prod (fun x : Fin 6 × Fin 32 × Bool => (dutyTok ER (kcell (c, x.1)) x.2.1.val x.2.2 : sProp 𝕄)),
    bigSep_congr (s := Finset.univ) (fun (k : Fin 6) _ => toks_line c k), six]
  unfold own
  iintro ⟨⟨H0, H0'⟩, ⟨H1, -⟩, ⟨H2, -⟩, ⟨H3, -⟩, ⟨H4, -⟩, H5, -⟩
  isplitl [H0]; · unfold line; iapply (run_first (F := F) _) $$ H0
  isplitl [H0']; · iapply (run_first (F := F) _) $$ H0'
  isplitl [H1]; · iexact H1
  isplitl [H2]; · iexact H2
  isplitl [H3]; · iexact H3
  isplitl [H4]; · iexact H4
  iexact H5

/-- The ring's part of the launch's element, dealt. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 6 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => own c := by
    unfold ringToks; rw [bigSep_map, bigSep_univ_prod]
    exact bigSep_mono fun c _ => toks_own c
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := ℕ) (Name := ℕ) (U := UU) (Lvl := ℕ) (Val := Elt F) (τ := τ) osem c : sProp 𝕄)
    = iprop(semVal (sendCell false c) 0 ∗ semVal (sendCell true c) 0 ∗ semVal (recvCell false c) 0 ∗ semVal (recvCell true c) 0
        ∗ semVal (copyCell false c) 0 ∗ semVal (copyCell true c) 0 ∗ semVal (crCell c) 0) := by
  rw [Pipeline.ownSems0_eq_of_list c osem [0, 1, 2, 3, 4, 5, 6] (by decide) (by decide)]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at launch: its six cells' counters and its two copy counters. -/
theorem sems_split (c : Dev nD) :
    iprop(Pipeline.ownSems0 (Ix := ℕ) (Name := ℕ) (U := UU) (Lvl := ℕ) (Val := Elt F) (τ := τ) osem c ∗ unscopedSems0 c)
      ⊢ (iprop((bigSep Finset.univ fun k : Fin 6 => semVal (kcell (c, k)) 0) ∗ copies c) : sProp 𝕄) := by
  rw [ownSems0_eq, unscopedSems0_eq, six]
  unfold copies
  iintro ⟨⟨S0, S1, R0, R1, V0, V1, C⟩, B⟩
  isplitr [V0 V1]
  · isplitl [B]; · iexact B
    isplitl [C]; · iexact C
    isplitl [S0]; · iexact S0
    isplitl [S1]; · iexact S1
    isplitl [R0]; · iexact R0
    iexact R1
  · isplitl [V0]; · iexact V0
    iexact V1

/-- A device's cells, allocated. -/
def cells (c : Dev nD) : sProp 𝕄 :=
  iprop((bigSep Finset.univ fun k => iprop(∃ κ : ℕ, cellInv ER (ringRd m) κ (kcell (c, k))))
    ∗ (bigSep Finset.univ fun k => iprop(atPos ER (kcell (c, k)) 0 ∅ 0 ∗ reached ER (kcell (c, k)) 0)) ∗ own c ∗ copies c)

theorem alloc (c : Dev nD) :
    iprop((bigSep Finset.univ fun k : Fin 6 => semVal (kcell (c, k)) 0) ∗ bigSep Finset.univ fun k : Fin 6 => roundState ER (ringRd m) (kcell (c, k)) 0)
      ⊢ (|={Set.univ}=> bigSep Finset.univ fun k => iprop(∃ κ : ℕ, cellInv ER (ringRd m) κ (kcell (c, k))) : sProp 𝕄) := by
  rw [← bigSep_sep']
  exact (bigSep_mono fun k _ => (Rounds.body_intro ER (ringRd m) (kcell (c, k))).trans inv_alloc).trans (bigSep_fupd _ _)

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> cells m c := by
  unfold G cells
  iintro ⟨Hos, Hus, Hst, Hat, Htok⟩
  ihave Hv := (sems_split (F := F) c) $$ [Hos Hus]
  · isplitl [Hos] <;> iassumption
  icases Hv with ⟨Hv, Hc⟩
  imod (alloc m c) $$ [Hv Hst] with Hinv
  · isplitl [Hv] <;> iassumption
  imodintro
  isplitl [Hinv]; · iexact Hinv
  isplitl [Hat]; · iexact Hat
  isplitl [Htok]; · iexact Htok
  iexact Hc

/-- Names for the cells' invariants, gathered over the devices. -/
theorem regroup : (bigSep Finset.univ fun c : Dev nD => cells m c : sProp 𝕄) ⊢ bigSep Finset.univ (G' m) := by
  unfold cells G' positions₀
  simp only [bigSep_sep']
  rw [← bigSep_univ_prod (fun ck : Dev nD × Fin 6 => iprop(∃ κ : ℕ, cellInv ER (ringRd m) κ (kcell ck))),
    ← bigSep_univ_prod (fun ck : Dev nD × Fin 6 => (reached ER (kcell ck) 0 : sProp 𝕄))]
  simp only [six, bigSep_sep']
  iintro ⟨HI, ⟨Hat, #HR⟩, Htok, Hc⟩
  ihave HK := (BI.bigSep_exists_pi Finset.univ (fun (ck : Dev nD × Fin 6) (κ : ℕ) => (cellInv ER (ringRd m) κ (kcell ck) : sProp 𝕄))) $$ HI
  icases HK with ⟨%K, #HI⟩
  ihave Htk := (around (F := F)) $$ Htok
  isplitr
  · iapply (BI.bigSep_of_persistent Finset.univ (iprop(∃ K, records m K)))
    iexists K
    unfold records
    isplitr; · iexact HI
    iexact HR
  isplitl [Hat]; · iexact Hat
  isplitl [Hc]; · iexact Hc
  iexact Htk

/-- All devices' cells are allocated at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions -/

/-- The launch's resources, sorted into what a device starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  rw [Pipeline.unscopedRestP_none]
  rw [show (Pipeline.unscopedRest cfg0.spec c (fun b => m ((c : Thread nD τ).loc b)) : sProp 𝕄) = _ from unscopedRest0_eq c _]
  unfold G' start ctx
  iintro ⟨Ho, Hl, Hcr, -, ⟨%K, HK⟩, Hp, Hc, Ht⟩
  imodintro
  isplitl
  · isplitl [Hl HK]
    · iexists K
      isplitl [HK]; · iexact HK
      iexact Hl
    isplitl [Hp]; · iexact Hp
    isplitl [Hc]; · iexact Hc
    iapply (sorted c)
    isplitl [Ht]; · iexact Ht
    isplitl [Hcr]; · iapply (credits c); iexact Hcr
    iapply (rows_split c (m ((c : Thread nD τ).loc main_v1))); iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ ((dats m 0 c).Φ 0 : sProp 𝕄) := by
  rw [show (dats m 0 c).Φ 0 = Φ₀ m c from rfl,
    show (Pipeline.scopedRest cfg0.spec c : sProp 𝕄) = _ from scopedRest0_eq c]
  unfold Φ₀
  iintro ⟨Hs, -, ⟨%f, H0⟩, %g, H1⟩
  isplitl [Hs]; · iexact Hs
  ihave H := (slots_split c f) $$ H0
  icases H with ⟨S0, S1⟩
  isplitl [S0]; · iexact S0
  isplitl [S1]; · iexact S1
  iapply (acc_split c g); iexact H1

/-- The result at the end: held whole, every row block at its product. -/
def result (c : Dev nD) : sProp 𝕄 :=
  iprop(∃ g : Buf (Elt F) (oM.view.loc (c : Thread nD τ)), ⌜∀ d : Dev nD, (rowsM d).view.read (Elt F) g = prod m c d⌝
    ∗ (oM.view.loc (c : Thread nD τ) ↦{fullShare} g))

theorem phi1_exit (c : Dev nD) :
    (dats m 0 c).Φ (Fin.last cfg0.N)
      ⊢ (iprop((result m c ∗ unscopedSems0 c) ∗ Pipeline.ownSems0 osem c ∗ Pipeline.scopedRest cfg0.spec c) : sProp 𝕄) := by
  rw [show (dats m 0 c).Φ (Fin.last cfg0.N) = Φ₁ m c from rfl,
    show (Pipeline.scopedRest cfg0.spec c : sProp 𝕄) = _ from scopedRest0_eq c, ownSems0_eq, unscopedSems0_eq]
  unfold Φ₁ scratch counters₀
  iintro ⟨⟨S0, S1, Ha, V0, V1⟩, ⟨B, C, D0, D1, R0, R1⟩, Hd⟩
  isplitl [Hd B]
  · isplitl [Hd]
    · unfold result; iapply (rows_join m c); iexact Hd
    · iexact B
  isplitl [D0 D1 R0 R1 V0 V1 C]
  · isplitl [D0]; · iexact D0
    isplitl [D1]; · iexact D1
    isplitl [R0]; · iexact R0
    isplitl [R1]; · iexact R1
    isplitl [V0]; · iexact V0
    isplitl [V1]; · iexact V1
    iexact C
  isplitl [S0 S1]
  · iapply (slots_join c)
    isplitl [S0]; · iexact S0
    iexact S1
  iapply (acc_join c); iexact Ha

omit [FloatOps F] in
theorem lv_stage (c : Dev nD) (q : DmaSem sig) (h : kind (.dma q) = none) : lv ((c : Thread nD τ), .dma q) 0 = 0 := by
  unfold lv; rw [h]

/-- The pipeline's own waits lie below everything that is owed. -/
theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact (above_O₀ c).mayWait c _ 0 (by omega) (by
        rw [lv_stage c _ (by fin_cases w <;> fin_cases s <;> decide)])
    · show _ ⊢ MayWait _ _ _ 0
      rw [MayWait_zero]; iintro -; iempintro

/-! ## The run -/

/-- Everything that is claimed of the state after the run. -/
def Q (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ ∀ d : Dev nD, (rowsM d).view.read (Elt F) (r.2.mem ((c : Thread nD τ).loc main_v1)) = prod m c d)
  ∧ r.2.sem = fun _ => 0

theorem arr_a (c : Dev nD) : (dats m 0 c).arrAt (0 : Fin 2) cfg0.N = m ((c : Thread nD τ).loc main_arg0) :=
  (dats m 0 c).arrAt_in (0 : Fin 2) rfl _
theorem arr_b (c : Dev nD) : (dats m 0 c).arrAt (1 : Fin 2) cfg0.N = m ((c : Thread nD τ).loc main_arg1) :=
  (dats m 0 c).arrAt_in (1 : Fin 2) rfl _

/-- Reading the result and the barrier counter at the end. -/
theorem read_end (c : Dev nD) (s' : Phys nD τ sig (Elt F)) :
    iprop((result m c ∗ unscopedSems0 c) ∗ emp ∗ SI s')
      ⊢ (|={Set.univ}=> iprop(⌜(∀ d : Dev nD, (rowsM d).view.read (Elt F) (s'.mem.mem ((c : Thread nD τ).loc main_v1)) = prod m c d)
          ∧ ∀ sm : SemLoc sig, sm.isScoped .tc = false → s'.mem.sem ((c.tc : Thread nD τ), sm) = 0⌝ ∗ SI s') : sProp 𝕄) := by
  unfold result
  iintro ⟨⟨⟨%g, %hg, H⟩, Hu⟩, -, HSI⟩
  icombine HSI H gives %h
  have e : s'.mem.mem ((c : Thread nD τ).loc main_v1) = g := Buf.eq_of_forall_mem_univ h
  ihave H' := (Pipeline.unscopedSems0_read (X := unscopedSems0 c) (c := c) fupd_intro s') $$ [Hu HSI]
  · isplitl [Hu] <;> iassumption
  imod H' with ⟨%hu, HSI⟩
  imodintro
  isplitr
  · ipureintro
    exact ⟨fun d => by rw [e]; exact hg d, hu⟩
  iexact HSI

set_option maxRecDepth 16384 in
/-- From any memory with zero counters, for any float values: every weakly fair execution of the thirty-two devices'
    program terminates without fault, and at its end the arguments are unchanged, every row block of every device's result
    is that block of `A` times `B`, and every semaphore is at zero. -/
theorem run_main : θ_run defs (onTc (τ := τ) (main (F := F))) ⟨m, fun _ => 0, ρ⟩ (Q m) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb embR _ _) $$ HX
      icases HX with ⟨HX, -⟩
      imod (fund_ring m) $$ HX with HG
      imodintro
      isplitl [HP] <;> iassumption)
    (hglob := glob m)
    (hA := fun _ _ => rfl) (hpf := fun _ k => k.elim0)
    (X := start m) (Y := fun c => iprop(result m c ∗ unscopedSems0 c)) (Z := fun _ => iprop(emp))
    (hX := start_intro m ρ) (hin := phi0_intro m) (hout := phi1_exit m)
    (QY := fun c s => (∀ d : Dev nD, (rowsM d).view.read (Elt F) (s.mem ((c : Thread nD τ).loc main_v1)) = prod m c d)
      ∧ ∀ sm : SemLoc sig, sm.isScoped .tc = false → s.sem ((c.tc : Thread nD τ), sm) = 0)
    (hY := read_end m)
    (hQ := fun _ h hs => ⟨fun c => ⟨((h c).1 (0 : Fin 2)).trans (arr_a m c), ((h c).1 (1 : Fin 2)).trans (arr_b m c), (h c).2.2.1⟩,
      sem_eq_zero hs fun c => (h c).2.2.2⟩)

end Cert.KernelIdeal.Ring

end
-- ==== Proof.Value.lean ====
/-
# What the result holds, at the ideal values

At the ideal instance a kernel's product from a zero accumulator and the host's product are both the sum over the contracted
coordinate. So a device whose result holds, row block by row block, the product of each device's block of `A` with `B` holds
`A @ B`: row `2048 d + r` of the whole is row `r` of block `d`.
-/
module

public import proofs.«01_k».proof.Proof.KernelIdealRing.Launch
public import proofs.«01_k».proof.Proof.Gen.ReferenceIdeal.Run
public import Idealize.ShloMosaic.Lib.MatmulPlain
public import Idealize.ShloMosaic.Lib.StackMember
public import Idealize.ShloMosaic.Lib.Layout

@[expose] public section

set_option maxRecDepth 16384

noncomputable section

namespace Cert.KernelIdeal.Ring

open Cert.KernelIdeal Cert.KernelIdeal.Gen

open Idealize.ShloMosaic Idealize.ShloMosaic.TcCoe Idealize.ShloMosaic.ValueIdx
open Idealize.SL.Sem
open scoped BigOperators

/-- Row `r` of row block `d`, as a row of the whole. -/
def rowAt (d : Dev nD) (r : Fin 2048) : Fin 65536 :=
  ⟨2048 * d.val + r.val, by have hd := d.isLt; have hr := r.isLt; simp only [nD] at hd; omega⟩

/-- Every row of the whole is a row of some block. -/
theorem exists_rowAt (x : Fin 65536) : ∃ (d : Dev nD) (r : Fin 2048), x = rowAt d r := by
  have hx := x.isLt
  refine ⟨⟨x.val / 2048, by simp only [nD]; omega⟩, ⟨x.val % 2048, by omega⟩, Fin.ext ?_⟩
  show x.val = 2048 * (x.val / 2048) + x.val % 2048
  omega

/-- Row block `d` of a result `g`, read at (r, l), is `g` at (2048 d + r, l). -/
theorem rows_read {F : FTy → Type} (c d : Dev nD) (g : Buf (Elt F) ((c : Thread nD τ).loc main_v1)) (r : Fin 2048) (l : Fin 2048) :
    (rowsM d).view.read (Elt F) g (ix2 r l) = g (ix2 (rowAt d r) l) := by
  refine congrArg g (funext fun a => Fin.ext ?_)
  match a with
  | ⟨0, _⟩ => show 2048 * d.val + 1 * r.val = 2048 * d.val + r.val; omega
  | ⟨1, _⟩ => show 0 + 1 * l.val = l.val; omega

section Blocks

variable {F : FTy → Type} (m : (ℓ : Loc nD τ sig) → Buf (Elt F) ℓ) (c : Dev nD)

/-- The block of `A` a device's window reads is the device's whole first argument; -/
theorem xblk_apply (r : Fin 2048) (k : Fin 1024) : xblk m c (ix2 r k) = m ((c : Thread nD τ).loc main_arg0) (ix2 r k) := by
  refine congrArg (m ((c : Thread nD τ).loc main_arg0)) (funext fun a => Fin.ext ?_)
  match a with
  | ⟨0, _⟩ => show 0 + 1 * r.val = r.val; omega
  | ⟨1, _⟩ => show 0 + 1 * k.val = k.val; omega

/-- the `B` it reads is its whole second argument. -/
theorem yblk_apply (k : Fin 1024) (l : Fin 2048) : yblk m c (ix2 k l) = m ((c : Thread nD τ).loc main_arg1) (ix2 k l) := by
  refine congrArg (m ((c : Thread nD τ).loc main_arg1)) (funext fun a => Fin.ext ?_)
  match a with
  | ⟨0, _⟩ => show 0 + 1 * k.val = k.val; omega
  | ⟨1, _⟩ => show 0 + 1 * l.val = l.val; omega

end Blocks

/-- At the ideal values a block times `B`, accumulated from zero, is the sum over the contracted coordinate. -/
theorem mm_apply (X : FVec Ideal S2048x1024 .f32) (Y : FVec Ideal S1024x2048 .f32) (r : Fin 2048) (l : Fin 2048) :
    mm X Y (ix2 r l) = ∑ k : Fin 1024, X (ix2 r k) * Y (ix2 k l) := by
  show FloatOps.matmul (DotDims.plain 2048 1024 2048) none X Y (constant S2048x2048 .f32 0x00000000#32) (ix2 r l) = _
  rw [Ideal.matmul_plain_apply]
  have h0 : (constant S2048x2048 .f32 0x00000000#32 : FVec Ideal S2048x2048 .f32) (ix2 r l) = 0 :=
    Ideal.ofBits_zero_f32
  rw [h0, zero_add]

/-- The reference's result: `A @ B`, the host's product. -/
abbrev whole (A : FVec Ideal ⟨2, ![65536, 1024]⟩ .f32) (B : FVec Ideal ⟨2, ![1024, 2048]⟩ .f32) : FVec Ideal ⟨2, ![65536, 2048]⟩ .f32 :=
  Host.dotGeneral Cert.ReferenceIdeal.dot_S65536x1024_S1024x2048_S65536x2048_1_0_0_1_n_n none A B

/-- It is the sum over the contracted coordinate too. -/
theorem whole_apply (A : FVec Ideal ⟨2, ![65536, 1024]⟩ .f32) (B : FVec Ideal ⟨2, ![1024, 2048]⟩ .f32) (x : Fin 65536) (l : Fin 2048) :
    whole A B (ix2 x l) = ∑ k : Fin 1024, A (ix2 x k) * B (ix2 k l) :=
  StackMember.dotGeneral_plain_apply none A B x l

/-- Block `d` of `A`, cut along the rows in 32, at (r, k), is `A` at (2048 d + r, k). -/
theorem block_rows (A : FVec Ideal ⟨2, ![65536, 1024]⟩ .f32) (d : Dev nD) (h : Layout.Tiles ⟨2, ![2048, 1024]⟩ ⟨2, ![65536, 1024]⟩ 0 32)
    (r : Fin 2048) (k : Fin 1024) :
    Layout.block ⟨2, ![2048, 1024]⟩ ⟨2, ![65536, 1024]⟩ 0 32 d A h (ix2 r k) = A (ix2 (rowAt d r) k) := by
  refine congrArg A (funext fun a => Fin.ext ?_)
  match a with
  | ⟨0, _⟩ => show d.val * 2048 + r.val = 2048 * d.val + r.val; omega
  | ⟨1, _⟩ => rfl

/-- If every device holds its block of `A` and a copy of `B`, a result whose every row block is that device's product is
    `A @ B`. -/
theorem eq_whole (m : (ℓ : Loc nD τ sig) → Buf (Elt Ideal) ℓ)
    (A : FVec Ideal ⟨2, ![65536, 1024]⟩ .f32) (B : FVec Ideal ⟨2, ![1024, 2048]⟩ .f32)
    (hA : ∀ d : Dev nD, m ((d : Thread nD τ).loc main_arg0) = Layout.block ⟨2, ![2048, 1024]⟩ ⟨2, ![65536, 1024]⟩ 0 32 d A)
    (hB : ∀ d : Dev nD, m ((d : Thread nD τ).loc main_arg1) = B)
    (c : Dev nD) (g : Buf (Elt Ideal) ((c : Thread nD τ).loc main_v1))
    (hg : ∀ d : Dev nD, (rowsM d).view.read (Elt Ideal) g = prod m c d) : g = whole A B := by
  funext i
  obtain ⟨x, l, rfl⟩ : ∃ (x : Fin 65536) (l : Fin 2048), i = ix2 x l := ⟨i 0, i 1, eq_ix2 i⟩
  obtain ⟨d, r, rfl⟩ := exists_rowAt x
  rw [← rows_read c d g r l, hg d, whole_apply]
  refine (mm_apply (xblk m d) (yblk m c) r l).trans (Finset.sum_congr rfl fun k _ => ?_)
  rw [xblk_apply, yblk_apply, hA d, hB c, block_rows]

end Cert.KernelIdeal.Ring

end
-- ==== Proof.lean ====
/-
# The claims of a ring all-gather fused with a matrix product, proved

`Cert.Claim` says: the kernel, its reading at the ideal values and the reference each terminate with their arguments unchanged and
every semaphore counter at zero; the ideal reading is a sanctioned one; and at the ideal values the kernel, on thirty-two devices,
leaves on each of them the reference's whole product `A @ B`.

* `Proof/KernelIdealRing/` proves the kernel's run at any float values: the schedule of the ring and the assertions its
  semaphores carry (`Sched`), the operations one by one (`Steps`), one trip of the loop (`Trip`), the kernel's body (`Body`), the
  result and the slots in pieces (`Blocks`), the tokens and credits dealt to the devices (`Deal`), and the whole run (`Launch`).
* `Proof/KernelRing/` is the same text for the program before idealization.
* `Proof/Value.lean` reads the run's result at the ideal values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelRing.Launch
public import proofs.«01_k».proof.Proof.KernelIdealRing.Launch
public import proofs.«01_k».proof.Proof.Value
public import Idealize.ShloMosaic.Lib.Quiescent

@[expose] public section

noncomputable section

namespace Cert.Proof

open Idealize.ShloMosaic Idealize.SL.Sem

/-- The kernel terminates, its arguments unchanged and every counter zero. -/
theorem frame_kernel : Cert.quiescent_Kernel := fun m g _ =>
  (θ_run _ _ _).mono (fun _ h => ⟨fun c => ⟨(h.1 c).1, (h.1 c).2.1⟩, h.2⟩) (Cert.Kernel.Ring.run_main (F := Bits) m g)

/-- So does its reading at the ideal values. -/
theorem frame_kernelIdeal : Cert.quiescent_KernelIdeal := fun m g _ =>
  (θ_run _ _ _).mono (fun _ h => ⟨fun c => ⟨(h.1 c).1, (h.1 c).2.1⟩, h.2⟩) (Cert.KernelIdeal.Ring.run_main (F := Ideal) m g)

/-- The reference terminates, its arguments unchanged; it has no semaphore. -/
theorem frame_reference : Cert.quiescent_ReferenceIdeal := fun m g _ =>
  (θ_run _ _ _).mono (fun r h => ⟨fun c => (h c).2, sem_eq_zero_of_no_sems (by decide) r.2⟩)
    (Cert.ReferenceIdeal.Value.run (F := Ideal) m g)

/-- At the ideal values every device's result is the reference's. -/
theorem same_result : Cert.algebraic_KernelIdeal_ReferenceIdeal := fun m g m' g' _ hin =>
  ⟨Cert.KernelIdeal.Ring.whole _ _,
    (θ_run _ _ _).mono
      (fun _ h c => ⟨Cert.KernelIdeal.Ring.eq_whole m _ _ (fun d => (hin d).1) (fun d => (hin d).2) c _ (h.1 c).2.2,
        (h.1 c).1, (h.1 c).2.1⟩)
      (Cert.KernelIdeal.Ring.run_main (F := Ideal) m g),
    (θ_run _ _ _).mono (fun _ h => h 0) (Cert.ReferenceIdeal.Value.run (F := Ideal) m' g')⟩

/-- Every claim, with the programs' side conditions. -/
theorem claim : Cert.Claim :=
  ⟨Cert.Kernel.Gen.facts, Cert.KernelIdeal.Gen.facts, Cert.ReferenceIdeal.Gen.facts,
    frame_kernel, frame_kernelIdeal, frame_reference, trivial, same_result⟩

end Cert.Proof

end
